-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v55) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
-- ==== Pre_finite.lean ====
abbrev S2x16384x512 : Shape := ⟨3, ![2, 16384, 512]⟩
abbrev S2x16640x512 : Shape := ⟨3, ![2, 16640, 512]⟩
abbrev S4x64 : Shape := ⟨2, ![4, 64]⟩
abbrev S128 : Shape := ⟨1, ![128]⟩
abbrev S_ : Shape := ⟨0, ![]⟩

class Facts : Prop where
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S2x16640x512 : S_.BroadcastsInDim S2x16640x512 (![] : Fin 0 → Fin S2x16640x512.rank)
  reducesTo_S2x16640x512_S_d0_1_2 : S2x16640x512.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S2x16384x512 .f32) (main_arg1 : FVec F S2x16640x512 .f32) (main_arg2 : FVec F S2x16640x512 .f32) (main_arg3 : FVec F S4x64 .f32) (main_arg4 : FVec F S128 .f32) : IVec S_ 1 :=
  let main_v0 : FVec F S2x16384x512 .f32 := Host.absf main_arg0
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_c : IVec S_ 1 := constantI S_ 1 1#1
  let main_v3 : IVec S_ 1 := (fun x v => Host.reduce IntOp.andi x v reducesTo_S2x16384x512_S_d0_1_2 h_S_) main_v2 main_c
  let main_v4 : FVec F S2x16640x512 .f32 := Host.absf main_arg1
  let main_cst_0 : FVec F S_ .f32 := constant S_ .f32 0x7F800000#32
  let main_v5 : FVec F S2x16640x512 .f32 := broadcastInDim S2x16640x512 ![] bcast_S_S2x16640x512 main_cst_0
  let main_v6 : IVec S2x16640x512 1 := cmpf .olt main_v4 main_v5
  let main_c_1 : IVec S_ 1 := constantI S_ 1 1#1
  let main_v7 : IVec S_ 1 := (fun x v => Host.reduce IntOp.andi x v reducesTo_S2x16640x512_S_d0_1_2 h_S_) main_v6 main_c_1
  let main_v8 : IVec S_ 1 := andi main_v3 main_v7
  let main_v9 : FVec F S2x16640x512 .f32 := Host.absf main_arg2
  let main_cst_2 : FVec F S_ .f32 := constant S_ .f32 0x7F800000#32
  let main_v10 : FVec F S2x16640x512 .f32 := broadcastInDim S2x16640x512 ![] bcast_S_S2x16640x512 main_cst_2
  let main_v11 : IVec S2x16640x512 1 := cmpf .olt main_v9 main_v10
  let main_c_3 : IVec S_ 1 := constantI S_ 1 1#1
  let main_v12 : IVec S_ 1 := (fun x v => Host.reduce IntOp.andi x v reducesTo_S2x16640x512_S_d0_1_2 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Kernel.lean ====
abbrev S2x16384x512 : Shape := ⟨3, ![2, 16384, 512]⟩
abbrev S2x16640x512 : Shape := ⟨3, ![2, 16640, 512]⟩
abbrev S4x64 : Shape := ⟨2, ![4, 64]⟩
abbrev S128 : Shape := ⟨1, ![128]⟩
abbrev S2x512x16384 : Shape := ⟨3, ![2, 512, 16384]⟩
abbrev S2x512x16640 : Shape := ⟨3, ![2, 512, 16640]⟩
abbrev S2x4x128x16640 : Shape := ⟨4, ![2, 4, 128, 16640]⟩
abbrev S_ : Shape := ⟨0, ![]⟩
abbrev S2x4x1x16640 : Shape := ⟨4, ![2, 4, 1, 16640]⟩
abbrev S2x4x15x16640 : Shape := ⟨4, ![2, 4, 15, 16640]⟩
abbrev S2x4x144x16640 : Shape := ⟨4, ![2, 4, 144, 16640]⟩
abbrev S2x576x16640 : Shape := ⟨3, ![2, 576, 16640]⟩
abbrev S1x128 : Shape := ⟨2, ![1, 128]⟩
abbrev S1x128x512 : Shape := ⟨3, ![1, 128, 512]⟩
abbrev S1x16640x128 : Shape := ⟨3, ![1, 16640, 128]⟩
abbrev S1x144x16640 : Shape := ⟨3, ![1, 144, 16640]⟩
abbrev S1x512x128 : Shape := ⟨3, ![1, 512, 128]⟩
abbrev S4x512x256 : Shape := ⟨3, ![4, 512, 256]⟩
abbrev S4x1x256 : Shape := ⟨3, ![4, 1, 256]⟩
abbrev S3x4x1x256 : Shape := ⟨4, ![3, 4, 1, 256]⟩
abbrev S144x256 : Shape := ⟨2, ![144, 256]⟩
abbrev S1x128x256 : Shape := ⟨3, ![1, 128, 256]⟩
abbrev S128x256 : Shape := ⟨2, ![128, 256]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S1x1x1x256 : Shape := ⟨4, ![1, 1, 1, 256]⟩
abbrev S512x128 : Shape := ⟨2, ![512, 128]⟩
abbrev S512x256 : Shape := ⟨2, ![512, 256]⟩
abbrev S1x512x256 : Shape := ⟨3, ![1, 512, 256]⟩
abbrev S1x144x256 : Shape := ⟨3, ![1, 144, 256]⟩
abbrev S1x1x256 : Shape := ⟨3, ![1, 1, 256]⟩
abbrev S1x144x512 : Shape := ⟨3, ![1, 144, 512]⟩
abbrev S144x512 : Shape := ⟨2, ![144, 512]⟩
abbrev S1x64 : Shape := ⟨2, ![1, 64]⟩
abbrev S1 : Shape := ⟨1, ![1]⟩
abbrev S1x1 : Shape := ⟨2, ![1, 1]⟩
abbrev S256x1 : Shape := ⟨2, ![256, 1]⟩

abbrev nBuf : Space → Nat
  | .hbm => 18
  | .vmem => 19
  | .smem => 0
  | _ => 0

abbrev bufTy : (tb : Table) → Fin (tcTables nBuf tb) → BufTy
  | .hbm, ⟨0, _⟩ => ⟨S2x16384x512, .f32⟩
  | .hbm, ⟨1, _⟩ => ⟨S2x16640x512, .f32⟩
  | .hbm, ⟨2, _⟩ => ⟨S2x16640x512, .f32⟩
  | .hbm, ⟨3, _⟩ => ⟨S4x64, .f32⟩
  | .hbm, ⟨4, _⟩ => ⟨S128, .f32⟩
  | .hbm, ⟨5, _⟩ => ⟨S2x512x16384, .f32⟩
  | .hbm, ⟨6, _⟩ => ⟨S2x512x16640, .f32⟩
  | .hbm, ⟨7, _⟩ => ⟨S2x4x128x16640, .f32⟩
  | .hbm, ⟨8, _⟩ => ⟨S2x4x128x16640, .bf16⟩
  | .hbm, ⟨9, _⟩ => ⟨S_, .bf16⟩
  | .hbm, ⟨10, _⟩ => ⟨S2x4x1x16640, .bf16⟩
  | .hbm, ⟨11, _⟩ => ⟨S_, .bf16⟩
  | .hbm, ⟨12, _⟩ => ⟨S2x4x15x16640, .bf16⟩
  | .hbm, ⟨13, _⟩ => ⟨S2x4x144x16640, .bf16⟩
  | .hbm, ⟨14, _⟩ => ⟨S2x576x16640, .bf16⟩
  | .hbm, ⟨15, _⟩ => ⟨S2x16640x512, .bf16⟩
  | .hbm, ⟨16, _⟩ => ⟨S1x128, .f32⟩
  | .hbm, ⟨17, _⟩ => ⟨S2x16384x512, .bf16⟩
  | .local _ .vmem, ⟨0, _⟩ => ⟨S4x64, .f32⟩
  | .local _ .vmem, ⟨1, _⟩ => ⟨S1x128, .f32⟩
  | .local _ .vmem, ⟨2, _⟩ => ⟨S1x128x512, .f32⟩
  | .local _ .vmem, ⟨3, _⟩ => ⟨S1x128x512, .f32⟩
  | .local _ .vmem, ⟨4, _⟩ => ⟨S1x16640x128, .bf16⟩
  | .local _ .vmem, ⟨5, _⟩ => ⟨S1x16640x128, .bf16⟩
  | .local _ .vmem, ⟨6, _⟩ => ⟨S1x144x16640, .bf16⟩
  | .local _ .vmem, ⟨7, _⟩ => ⟨S1x144x16640, .bf16⟩
  | .local _ .vmem, ⟨8, _⟩ => ⟨S1x512x128, .bf16⟩
  | .local _ .vmem, ⟨9, _⟩ => ⟨S1x512x128, .bf16⟩
  | .local _ .vmem, ⟨10, _⟩ => ⟨S4x512x256, .f32⟩
  | .local _ .vmem, ⟨11, _⟩ => ⟨S4x512x256, .f32⟩
  | .local _ .vmem, ⟨12, _⟩ => ⟨S4x512x256, .f32⟩
  | .local _ .vmem, ⟨13, _⟩ => ⟨S4x1x256, .f32⟩
  | .local _ .vmem, ⟨14, _⟩ => ⟨S3x4x1x256, .f32⟩
  | .local _ .vmem, ⟨15, _⟩ => ⟨S144x256, .f32⟩
  | .local _ .vmem, ⟨16, _⟩ => ⟨S144x256, .f32⟩
  | .local _ .vmem, ⟨17, _⟩ => ⟨S144x256, .f32⟩
  | .local _ .vmem, ⟨18, _⟩ => ⟨S144x256, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c0_i32 : BitVec 32 := 0#32
  let v26 : BitVec 32 := Scalar.minsi arg2 c0_i32
  v26
def k0_off1 (i : grid0.Coords) : Fin 3 → Nat :=
  let c0_95 : Index := 0#32
  let arg2 : BitVec 32 := BitVec.ofNat 32 (i 2).val
  let c0_i32 : BitVec 32 := 0#32
  let v26 : BitVec 32 := Scalar.minsi arg2 c0_i32
  let v27 : BitVec 32 := v26
  let v111 : Index := Scalar.indexCast v27
  let c0_96 : Index := 0#32
  ![0, v111.toNat, 0]
def k0_off2 (i : grid0.Coords) : Fin 3 → Nat :=
  let c1_107 : Index := 1#32
  let arg2 : BitVec 32 := BitVec.ofNat 32 (i 2).val
  let c0_i32 : BitVec 32 := 0#32
  let v26 : BitVec 32 := Scalar.minsi arg2 c0_i32
  let v27 : BitVec 32 := v26
  let v127 : Index := Scalar.indexCast v27
  let c0_108 : Index := 0#32
  ![1, v127.toNat, 0]
def k0_off3 (i : grid0.Coords) : Fin 3 → Nat :=
  let c2_119 : Index := 2#32
  let arg2 : BitVec 32 := BitVec.ofNat 32 (i 2).val
  let c0_i32 : BitVec 32 := 0#32
  let v26 : BitVec 32 := Scalar.minsi arg2 c0_i32
  let v27 : BitVec 32 := v26
  let v143 : Index := Scalar.indexCast v27
  let c0_120 : Index := 0#32
  ![2, v143.toNat, 0]
def k0_off4 (i : grid0.Coords) : Fin 3 → Nat :=
  let c3_131 : Index := 3#32
  let arg2 : BitVec 32 := BitVec.ofNat 32 (i 2).val
  let c0_i32 : BitVec 32 := 0#32
  let v26 : BitVec 32 := Scalar.minsi arg2 c0_i32
  let v27 : BitVec 32 := v26
  let v159 : Index := Scalar.indexCast v27
  let c0_132 : Index := 0#32
  ![3, v159.toNat, 0]
def k0_off5 (i : grid0.Coords) : Fin 3 → Nat :=
  let c0_187 : Index := 0#32
  let arg2 : BitVec 32 := BitVec.ofNat 32 (i 2).val
  let c0_i32 : BitVec 32 := 0#32
  let v26 : BitVec 32 := Scalar.minsi arg2 c0_i32
  let v27 : BitVec 32 := v26
  let v220 : Index := Scalar.indexCast v27
  let c0_188 : Index := 0#32
  ![0, v220.toNat, 0]
def k0_off6 (i : grid0.Coords) : Fin 2 → Nat :=
  let arg2 : BitVec 32 := BitVec.ofNat 32 (i 2).val
  let c0_i32 : BitVec 32 := 0#32
  let v26 : BitVec 32 := Scalar.minsi arg2 c0_i32
  let v27 : BitVec 32 := v26
  let v228 : Index := Scalar.indexCast v27
  let c0_190 : Index := 0#32
  ![v228.toNat, 0]
def k0_off7 (i : grid0.Coords) : Fin 3 → Nat :=
  let c1_203 : Index := 1#32
  let arg2 : BitVec 32 := BitVec.ofNat 32 (i 2).val
  let c0_i32 : BitVec 32 := 0#32
  let v26 : BitVec 32 := Scalar.minsi arg2 c0_i32
  let v27 : BitVec 32 := v26
  let v246 : Index := Scalar.indexCast v27
  let c0_204 : Index := 0#32
  ![1, v246.toNat, 0]
def k0_off8 (i : grid0.Coords) : Fin 3 → Nat :=
  let c2_219 : Index := 2#32
  let arg2 : BitVec 32 := BitVec.ofNat 32 (i 2).val
  let c0_i32 : BitVec 32 := 0#32
  let v26 : BitVec 32 := Scalar.minsi arg2 c0_i32
  let v27 : BitVec 32 := v26
  let v272 : Index := Scalar.indexCast v27
  let c0_220 : Index := 0#32
  ![2, v272.toNat, 0]
def k0_off9 (i : grid0.Coords) : Fin 3 → Nat :=
  let c3_235 : Index := 3#32
  let arg2 : BitVec 32 := BitVec.ofNat 32 (i 2).val
  let c0_i32 : BitVec 32 := 0#32
  let v26 : BitVec 32 := Scalar.minsi arg2 c0_i32
  let v27 : BitVec 32 := v26
  let v298 : Index := Scalar.indexCast v27
  let c0_236 : Index := 0#32
  ![3, v298.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x144x16640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S2x16384x512 : Shape := ⟨3, ![2, 16384, 512]⟩
abbrev S2x16640x512 : Shape := ⟨3, ![2, 16640, 512]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S2x16384x4x2x64 : Shape := ⟨5, ![2, 16384, 4, 2, 64]⟩
abbrev S2x4x2x16384x64 : Shape := ⟨5, ![2, 4, 2, 16384, 64]⟩
abbrev S2x16640x4x2x64 : Shape := ⟨5, ![2, 16640, 4, 2, 64]⟩
abbrev S2x4x2x16640x64 : Shape := ⟨5, ![2, 4, 2, 16640, 64]⟩
abbrev S2x16640x4x128 : Shape := ⟨4, ![2, 16640, 4, 128]⟩
abbrev S2x4x16640x128 : Shape := ⟨4, ![2, 4, 16640, 128]⟩
abbrev S2x4x2x16384x16640 : Shape := ⟨5, ![2, 4, 2, 16384, 16640]⟩
abbrev S2x4x2x16384 : Shape := ⟨4, ![2, 4, 2, 16384]⟩
abbrev S2x4x2x16384x1 : Shape := ⟨5, ![2, 4, 2, 16384, 1]⟩
abbrev S2x4x1x16384x16640 : Shape := ⟨5, ![2, 4, 1, 16384, 16640]⟩
abbrev S2x4x16384x16640 : Shape := ⟨4, ![2, 4, 16384, 16640]⟩
abbrev S2x4x16384x128 : Shape := ⟨4, ![2, 4, 16384, 128]⟩
abbrev S2x4x16384 : Shape := ⟨3, ![2, 4, 16384]⟩
abbrev S2x4x16384x1 : Shape := ⟨4, ![2, 4, 16384, 1]⟩
abbrev S1x1x1x128 : Shape := ⟨4, ![1, 1, 1, 128]⟩
abbrev S2x16384x4x128 : Shape := ⟨4, ![2, 16384, 4, 128]⟩

abbrev nBuf : Space → Nat
  | .hbm => 78
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16640x512, .f32⟩
  | .hbm, ⟨2, _⟩ => ⟨S2x16640x512, .f32⟩
  | .hbm, ⟨3, _⟩ => ⟨S4x64, .f32⟩
  | .hbm, ⟨4, _⟩ => ⟨S128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x16384x4x2x64, .f32⟩
  | .hbm, ⟨25, _⟩ => ⟨S2x4x2x16384x64, .f32⟩
  | .hbm, ⟨26, _⟩ => ⟨S2x16640x4x2x64, .f32⟩
  | .hbm, ⟨27, _⟩ => ⟨S2x4x2x16640x64, .f32⟩
  | .hbm, ⟨28, _⟩ => ⟨S2x16640x4x128, .f32⟩
  | .hbm, ⟨29, _⟩ => ⟨S2x4x16640x128, .f32⟩
  | .hbm, ⟨30, _⟩ => ⟨S2x4x2x16384x16640, .f32⟩
  | .hbm, ⟨31, _⟩ => ⟨S_, .f32⟩
  | .hbm, ⟨32, _⟩ => ⟨S2x4x2x16384x16640, .f32⟩
  | .hbm, ⟨33, _⟩ => ⟨S2x4x2x16384x16640, .f32⟩
  | .hbm, ⟨34, _⟩ => ⟨S_, .f32⟩
  | .hbm, ⟨35, _⟩ => ⟨S2x4x2x16384, .f32⟩
  | .hbm, ⟨36, _⟩ => ⟨S_, .f32⟩
  | .hbm, ⟨37, _⟩ => ⟨S2x4x2x16384, .f32⟩
  | .hbm, ⟨38, _⟩ => ⟨S2x4x2x16384, .f32⟩
  | .hbm, ⟨39, _⟩ => ⟨S2x4x2x16384x1, .f32⟩
  | .hbm, ⟨40, _⟩ => ⟨S2x4x2x16384x16640, .f32⟩
  | .hbm, ⟨41, _⟩ => ⟨S2x4x2x16384x16640, .f32⟩
  | .hbm, ⟨42, _⟩ => ⟨S2x4x2x16384x16640, .f32⟩
  | .hbm, ⟨43, _⟩ => ⟨S_, .f32⟩
  | .hbm, ⟨44, _⟩ => ⟨S2x4x2x16384, .f32⟩
  | .hbm, ⟨45, _⟩ => ⟨S2x4x2x16384x1, .f32⟩
  | .hbm, ⟨46, _⟩ => ⟨S2x4x2x16384x16640, .f32⟩
  | .hbm, ⟨47, _⟩ => ⟨S2x4x2x16384x16640, .f32⟩
  | .hbm, ⟨48, _⟩ => ⟨S2x4x1x16384x16640, .f32⟩
  | .hbm, ⟨49, _⟩ => ⟨S2x4x16384x16640, .f32⟩
  | .hbm, ⟨50, _⟩ => ⟨S2x4x1x16384x16640, .f32⟩
  | .hbm, ⟨51, _⟩ => ⟨S2x4x16384x16640, .f32⟩
  | .hbm, ⟨52, _⟩ => ⟨S2x4x16384x16640, .f32⟩
  | .hbm, ⟨53, _⟩ => ⟨S2x4x16384x16640, .f32⟩
  | .hbm, ⟨54, _⟩ => ⟨S2x4x16384x16640, .f32⟩
  | .hbm, ⟨55, _⟩ => ⟨S2x4x16384x128, .f32⟩
  | .hbm, ⟨56, _⟩ => ⟨S2x4x16384x128, .f32⟩
  | .hbm, ⟨57, _⟩ => ⟨S_, .f32⟩
  | .hbm, ⟨58, _⟩ => ⟨S2x4x16384, .f32⟩
  | .hbm, ⟨59, _⟩ => ⟨S2x4x16384x1, .f32⟩
  | .hbm, ⟨60, _⟩ => ⟨S_, .f32⟩
  | .hbm, ⟨61, _⟩ => ⟨S2x4x16384x1, .f32⟩
  | .hbm, ⟨62, _⟩ => ⟨S2x4x16384x1, .f32⟩
  | .hbm, ⟨63, _⟩ => ⟨S_, .f32⟩
  | .hbm, ⟨64, _⟩ => ⟨S2x4x16384x1, .f32⟩
  | .hbm, ⟨65, _⟩ => ⟨S2x4x16384x1, .f32⟩
  | .hbm, ⟨66, _⟩ => ⟨S2x4x16384x1, .f32⟩
  | .hbm, ⟨67, _⟩ => ⟨S2x4x16384x128, .f32⟩
  | .hbm, ⟨68, _⟩ => ⟨S2x4x16384x128, .f32⟩
  | .hbm, ⟨69, _⟩ => ⟨S1x1x1x128, .f32⟩
  | .hbm, ⟨70, _⟩ => ⟨S2x4x16384x128, .f32⟩
  | .hbm, ⟨71, _⟩ => ⟨S2x4x16384x128, .f32⟩
  | .hbm, ⟨72, _⟩ => ⟨S_, .f32⟩
  | .hbm, ⟨73, _⟩ => ⟨S2x4x16384x128, .f32⟩
  | .hbm, ⟨74, _⟩ => ⟨S2x4x16384x128, .f32⟩
  | .hbm, ⟨75, _⟩ => ⟨S2x16384x4x128, .f32⟩
  | .hbm, ⟨76, _⟩ => ⟨S2x16384x512, .f32⟩
  | .hbm, ⟨77, _⟩ => ⟨S2x16384x512, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Ffn.lean ====
abbrev S2x16384x1024 : Shape := ⟨3, ![2, 16384, 1024]⟩
abbrev S8x9x1024 : Shape := ⟨3, ![8, 9, 1024]⟩
abbrev S1024 : Shape := ⟨1, ![1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1x512x1024 : Shape := ⟨3, ![1, 512, 1024]⟩
abbrev S1x9x1024 : Shape := ⟨3, ![1, 9, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x5632 : Shape := ⟨2, ![1024, 5632]⟩
abbrev S512x5632 : Shape := ⟨2, ![512, 5632]⟩
abbrev S512x2816 : Shape := ⟨2, ![512, 2816]⟩
abbrev S2816x1024 : Shape := ⟨2, ![2816, 1024]⟩

abbrev nBuf : Space → Nat
  | .hbm => 11
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S8x9x1024, .f32⟩
  | .hbm, ⟨2, _⟩ => ⟨S1024, .f32⟩
  | .hbm, ⟨3, _⟩ => ⟨S1024, .f32⟩
  | .hbm, ⟨4, _⟩ => ⟨S4x1024x5632, .f32⟩
  | .hbm, ⟨5, _⟩ => ⟨S4x2816x1024, .f32⟩
  | .hbm, ⟨6, _⟩ => ⟨S1x1024, .f32⟩
  | .hbm, ⟨7, _⟩ => ⟨S1x1024, .f32⟩
  | .hbm, ⟨8, _⟩ => ⟨S4x1024x5632, .bf16⟩
  | .hbm, ⟨9, _⟩ => ⟨S4x2816x1024, .bf16⟩
  | .hbm, ⟨10, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1024, .f32⟩
  | .local _ .vmem, ⟨6, _⟩ => ⟨S1x1024x5632, .bf16⟩
  | .local _ .vmem, ⟨7, _⟩ => ⟨S1x2816x1024, .bf16⟩
  | .local _ .vmem, ⟨8, _⟩ => ⟨S1x512x1024, .f32⟩
  | .local _ .vmem, ⟨9, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S2x16384x1024 : Shape := ⟨3, ![2, 16384, 1024]⟩
abbrev S8x9x1024 : Shape := ⟨3, ![8, 9, 1024]⟩
abbrev S1024 : Shape := ⟨1, ![1024]⟩
abbrev S4x1024x5632 : Shape := ⟨3, ![4, 1024, 5632]⟩
abbrev S4x2816x1024 : Shape := ⟨3, ![4, 2816, 1024]⟩
abbrev S2x1x1024 : Shape := ⟨3, ![2, 1, 1024]⟩
abbrev S2x1024 : Shape := ⟨2, ![2, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩

abbrev nBuf : Space → Nat
  | .hbm => 78
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S8x9x1024, .f32⟩
  | .hbm, ⟨2, _⟩ => ⟨S1024, .f32⟩
  | .hbm, ⟨3, _⟩ => ⟨S1024, .f32⟩
  | .hbm, ⟨4, _⟩ => ⟨S4x1024x5632, .f32⟩
  | .hbm, ⟨5, _⟩ => ⟨S4x2816x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S1x1024x5632, .f32⟩
  | .hbm, ⟨16, _⟩ => ⟨S1024x5632, .f32⟩
  | .hbm, ⟨17, _⟩ => ⟨S1x2816x1024, .f32⟩
  | .hbm, ⟨18, _⟩ => ⟨S2816x1024, .f32⟩
  | .hbm, ⟨19, _⟩ => ⟨S_, .f32⟩
  | .hbm, ⟨20, _⟩ => ⟨S2x1x1024, .f32⟩
  | .hbm, ⟨21, _⟩ => ⟨S2x1x1024, .f32⟩
  | .hbm, ⟨22, _⟩ => ⟨S2x16384x1024, .f32⟩
  | .hbm, ⟨23, _⟩ => ⟨S_, .f32⟩
  | .hbm, ⟨24, _⟩ => ⟨S2x16384, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x1, .f32⟩
  | .hbm, ⟨33, _⟩ => ⟨S2x16384x1024, .f32⟩
  | .hbm, ⟨34, _⟩ => ⟨S2x16384x1024, .f32⟩
  | .hbm, ⟨35, _⟩ => ⟨S1x1x1024, .f32⟩
  | .hbm, ⟨36, _⟩ => ⟨S2x16384x1024, .f32⟩
  | .hbm, ⟨37, _⟩ => ⟨S2x16384x1024, .f32⟩
  | .hbm, ⟨38, _⟩ => ⟨S_, .f32⟩
  | .hbm, ⟨39, _⟩ => ⟨S2x1x1024, .f32⟩
  | .hbm, ⟨40, _⟩ => ⟨S2x1x1024, .f32⟩
  | .hbm, ⟨41, _⟩ => ⟨S2x16384x1024, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S2x16384x5632, .f32⟩
  | .hbm, ⟨46, _⟩ => ⟨S2x16384x2816, .f32⟩
  | .hbm, ⟨47, _⟩ => ⟨S2x16384x2816, .f32⟩
  | .hbm, ⟨48, _⟩ => ⟨S2x16384x2816, .f32⟩
  | .hbm, ⟨49, _⟩ => ⟨S2x16384x2816, .f32⟩
  | .hbm, ⟨50, _⟩ => ⟨S_, .f32⟩
  | .hbm, ⟨51, _⟩ => ⟨S2x16384x2816, .f32⟩
  | .hbm, ⟨52, _⟩ => ⟨S2x16384x2816, .f32⟩
  | .hbm, ⟨53, _⟩ => ⟨S_, .f32⟩
  | .hbm, ⟨54, _⟩ => ⟨S2x16384x2816, .f32⟩
  | .hbm, ⟨55, _⟩ => ⟨S2x16384x2816, .f32⟩
  | .hbm, ⟨56, _⟩ => ⟨S2x16384x2816, .f32⟩
  | .hbm, ⟨57, _⟩ => ⟨S2x16384x2816, .f32⟩
  | .hbm, ⟨58, _⟩ => ⟨S2x16384x1024, .f32⟩
  | .hbm, ⟨59, _⟩ => ⟨S2x16384x1024, .f32⟩
  | .hbm, ⟨60, _⟩ => ⟨S_, .f32⟩
  | .hbm, ⟨61, _⟩ => ⟨S2x16384, .f32⟩
  | .hbm, ⟨62, _⟩ => ⟨S2x16384x1, .f32⟩
  | .hbm, ⟨63, _⟩ => ⟨S_, .f32⟩
  | .hbm, ⟨64, _⟩ => ⟨S2x16384x1, .f32⟩
  | .hbm, ⟨65, _⟩ => ⟨S2x16384x1, .f32⟩
  | .hbm, ⟨66, _⟩ => ⟨S_, .f32⟩
  | .hbm, ⟨67, _⟩ => ⟨S2x16384x1, .f32⟩
  | .hbm, ⟨68, _⟩ => ⟨S2x16384x1, .f32⟩
  | .hbm, ⟨69, _⟩ => ⟨S2x16384x1, .f32⟩
  | .hbm, ⟨70, _⟩ => ⟨S2x16384x1024, .f32⟩
  | .hbm, ⟨71, _⟩ => ⟨S2x16384x1024, .f32⟩
  | .hbm, ⟨72, _⟩ => ⟨S1x1x1024, .f32⟩
  | .hbm, ⟨73, _⟩ => ⟨S2x16384x1024, .f32⟩
  | .hbm, ⟨74, _⟩ => ⟨S2x16384x1024, .f32⟩
  | .hbm, ⟨75, _⟩ => ⟨S2x16384x1024, .f32⟩
  | .hbm, ⟨76, _⟩ => ⟨S2x16384x1024, .f32⟩
  | .hbm, ⟨77, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Proof.AttnSpec.lean ====
module

public import Idealize.ShloMosaic.Lib.Pointwise
public import Idealize.ShloMosaic.Lib.ValueIdx

@[expose] public section

noncomputable section

/-! # The differential attention, on real numbers

What both programs compute. Two softmax means of the values are taken over all the keys, with the scores of the
two halves of a head's channels. The second, weighted, is subtracted from the first; the difference is normalised
over the head's channels. -/

namespace Cert.Attn

open Idealize.ShloMosaic Idealize.ShloMosaic.TcCoe
open scoped BigOperators

/-- The mean of the values under the softmax of the scores. -/
def mean {n : ℕ} (s v : Fin n → ℝ) : ℝ := (∑ k, v k * Real.exp (s k)) / ∑ k, Real.exp (s k)

/-- The score of a key with a query over one half of a head's channels. -/
def dot (q k : Fin 64 → ℝ) : ℝ := (∑ l, q l * k l) / 8

/-- The initial weight, the rounded `0.2` of both programs. -/
def weight0 : ℝ := (Ideal.ofBits FTy.f32 1045220557#32).toReal

/-- The weight of the second softmax. -/
def weight (a : Fin 4 → Fin 64 → ℝ) : ℝ :=
  Real.exp (∑ l, a 0 l * a 1 l) - Real.exp (∑ l, a 2 l * a 3 l) + weight0

/-- The normalisation over a head's channels, its gain, and the closing factor. -/
def finish (o g : Fin 128 → EReal) (d : Fin 128) : EReal :=
  o d * Ideal.rsqrt (Ideal.div (∑ e, o e * o e) (Ideal.ofBits FTy.f32 1124073472#32) + Ideal.ofBits FTy.f32 897988541#32) *
    g d * Ideal.ofBits FTy.f32 1061997773#32

/-- One head at one query. -/
def head {n : ℕ} (w : ℝ) (s : Fin 2 → Fin n → ℝ) (v : Fin n → Fin 128 → ℝ) (g : Fin 128 → EReal) (d : Fin 128) : EReal :=
  finish (fun e => ((mean (s 0) (v · e) - w * mean (s 1) (v · e) : ℝ) : EReal)) g d

/-- A head's channel among the channels of all heads. -/
def ch (h : Fin 4) (e : Fin 128) : Fin 512 := ⟨h.val * 128 + e.val, by omega⟩

/-- A channel of one half among the channels of a head. -/
def half (p : Fin 2) (l : Fin 64) : Fin 128 := ⟨p.val * 64 + l.val, by omega⟩

/-- The head of a channel, and the channel within its head. -/
def hd (j : Fin 512) : Fin 4 := ⟨j.val / 128, by omega⟩
/-- The lane of a channel within its head. -/
def ln (j : Fin 512) : Fin 128 := ⟨j.val % 128, by omega⟩

/-- A channel is that of its head and lane. -/
theorem ch_hd_ln (j : Fin 512) : ch (hd j) (ln j) = j := by
  apply Fin.ext; simp only [ch, hd, ln]; omega
/-- The head of a head's channel. -/
theorem hd_ch (h : Fin 4) (e : Fin 128) : hd (ch h e) = h := by
  apply Fin.ext; simp only [ch, hd]; omega
/-- The lane of a lane's channel. -/
theorem ln_ch (h : Fin 4) (e : Fin 128) : ln (ch h e) = e := by
  apply Fin.ext; simp only [ch, ln]; omega

/-- The attention at an entry of the result, from the arguments. -/
def value (q : (⟨3, ![2, 16384, 512]⟩ : Shape).Idx → EReal) (k v : (⟨3, ![2, 16640, 512]⟩ : Shape).Idx → EReal)
    (a : (⟨2, ![4, 64]⟩ : Shape).Idx → EReal) (g : (⟨1, ![128]⟩ : Shape).Idx → EReal)
    (b : Fin 2) (s : Fin 16384) (h : Fin 4) (d : Fin 128) : EReal :=
  head (weight fun j l => (a (ix2 j l)).toReal)
    (fun p key => dot (fun l => (q (ix3 b s (ch h (half p l)))).toReal) (fun l => (k (ix3 b key (ch h (half p l)))).toReal))
    (fun key e => (v (ix3 b key (ch h e))).toReal) (fun e => g (ix1 e)) d

/-! ## Real arithmetic under the ideal operations -/

/-- A sum of real numbers, taken over the extended reals. -/
theorem coe_sum {ι : Type} (s : Finset ι) (f : ι → ℝ) : (∑ i ∈ s, (f i : EReal)) = ((∑ i ∈ s, f i : ℝ) : EReal) := by
  induction s using Finset.cons_induction with
  | empty => simp
  | cons a s h ih => rw [Finset.sum_cons, Finset.sum_cons, ih, EReal.coe_add]

/-- The bits of minus infinity. -/
theorem neg_inf_f32 : Ideal.ofBits FTy.f32 4286578688#32 = ⊥ := by
  simp [Ideal.ofBits, Ideal.ieee]

/-- The greatest of finitely many (at least one) real numbers, started from below, is real. -/
theorem fold_max_real {n : ℕ} (f : Fin (n + 1) → EReal) (hf : ∀ i, ∃ x : ℝ, f i = (x : EReal)) :
    ∃ x : ℝ, Finset.fold max (⊥ : EReal) f Finset.univ = (x : EReal) := by
  have h1 : Finset.fold max (⊥ : EReal) f Finset.univ ≠ ⊥ := by
    refine ne_of_gt ((Finset.lt_fold_max _).2 (Or.inr ⟨0, Finset.mem_univ _, ?_⟩))
    obtain ⟨x, hx⟩ := hf 0
    rw [hx]; exact EReal.bot_lt_coe x
  have h2 : Finset.fold max (⊥ : EReal) f Finset.univ ≠ ⊤ := by
    refine ne_of_lt ((Finset.fold_max_lt _).2 ⟨bot_lt_top, fun i _ => ?_⟩)
    obtain ⟨x, hx⟩ := hf i
    rw [hx]; exact EReal.coe_lt_top x
  exact ⟨_, (EReal.coe_toReal h2 h1).symm⟩

/-- A quotient of real numbers by one that is not zero. -/
theorem div_real (x y : ℝ) (hy : y ≠ 0) : Ideal.div (x : EReal) (y : EReal) = ((x / y : ℝ) : EReal) := by
  have h0 : (y : EReal) ≠ 0 := by exact_mod_cast hy
  simp only [Ideal.div, h0, if_false]
  rw [div_eq_mul_inv, EReal.coe_mul, EReal.coe_inv]

/-- The exponential of a real number. -/
theorem exp_real (x : ℝ) : Ideal.exp (x : EReal) = ((Real.exp x : ℝ) : EReal) := rfl

/-- The initial weight is a real number. -/
theorem weight0_coe : Ideal.ofBits FTy.f32 1045220557#32 = (weight0 : EReal) := by
  have h : ∃ x : ℝ, Ideal.ofBits FTy.f32 1045220557#32 = (x : EReal) := by
    simp only [Ideal.ofBits, Ideal.ieee]
    norm_num
    exact ⟨_, rfl⟩
  obtain ⟨x, hx⟩ := h
  rw [weight0, hx, EReal.toReal_coe]

/-- The weight of the second softmax, from real entries. -/
theorem weight_coe (a : Fin 4 → Fin 64 → EReal) (ha : ∀ j l, a j l = ((a j l).toReal : EReal)) :
    Ideal.exp (∑ l, a 0 l * a 1 l) - Ideal.exp (∑ l, a 2 l * a 3 l) + Ideal.ofBits FTy.f32 1045220557#32 =
      (weight fun j l => (a j l).toReal : ℝ) := by
  have e : ∀ i j, (∑ l, a i l * a j l) = ((∑ l, (a i l).toReal * (a j l).toReal : ℝ) : EReal) := fun i j => by
    rw [← coe_sum]
    exact Finset.sum_congr rfl fun l _ => by rw [EReal.coe_mul, ← ha, ← ha]
  rw [e, e, exp_real, exp_real, weight0_coe, ← EReal.coe_sub, ← EReal.coe_add, weight]

/-- A sum of exponentials is positive. -/
theorem sum_exp_pos {n : ℕ} (s : Fin (n + 1) → ℝ) : 0 < ∑ k, Real.exp (s k) :=
  Finset.sum_pos (fun _ _ => Real.exp_pos _) Finset.univ_nonempty

/-- A softmax entry does not depend on the real number subtracted from the scores. -/
theorem softmax_coe {n : ℕ} (s : Fin (n + 1) → ℝ) (μ : ℝ) (k : Fin (n + 1)) :
    Ideal.div (Ideal.exp ((s k : EReal) - (μ : EReal))) (∑ j, Ideal.exp ((s j : EReal) - (μ : EReal))) =
      ((Real.exp (s k) / ∑ j, Real.exp (s j) : ℝ) : EReal) := by
  have e : ∀ j, Ideal.exp ((s j : EReal) - (μ : EReal)) = ((Real.exp (s j) * Real.exp (-μ) : ℝ) : EReal) := fun j => by
    rw [← EReal.coe_sub, exp_real, ← Real.exp_add, sub_eq_add_neg]
  simp only [e]
  rw [coe_sum, ← Finset.sum_mul, div_real _ _ (mul_pos (sum_exp_pos s) (Real.exp_pos _)).ne',
    mul_div_mul_right _ _ (Real.exp_pos _).ne']

/-- The values under the difference of two softmaxes are the difference of the means. -/
theorem mean_sub {n : ℕ} (w : ℝ) (s t v : Fin n → ℝ) :
    (∑ k, (Real.exp (s k) / (∑ j, Real.exp (s j)) - w * (Real.exp (t k) / ∑ j, Real.exp (t j))) * v k) =
      mean s v - w * mean t v := by
  simp only [mean, Finset.sum_div, Finset.mul_sum]
  rw [← Finset.sum_sub_distrib]
  exact Finset.sum_congr rfl fun k _ => by ring

end Cert.Attn
end
-- ==== Proof.AttnStep.lean ====
module

public import proofs.«01_k».proof.Proof.AttnSpec
public import proofs.«01_k».proof.Proof.Gen.KernelIdeal.Frame
public import Idealize.ShloMosaic.Lib.Pipeline.ValueKit
public import Idealize.ShloMosaic.Lib.Pointwise
public import Idealize.ShloMosaic.Lib.Pipeline.ReadBack
public import Idealize.ShloMosaic.Lib.WholeRead
public import Idealize.ShloMosaic.Lib.VecWindow

@[expose] public section

set_option maxRecDepth 16384

noncomputable section

/-! # One step of the streamed softmax

The body walks the keys in blocks. For each stream (one tile of queries, one of the two score maps) it keeps
a running maximum and an unnormalised accumulator. Scaled by two to the running maximum, the accumulator is
the plain sum of the values weighted by two to the score, over the keys seen. This module states that
invariant, proves that a block keeps it, and reads the buffers the body keeps the parts in. -/

namespace Cert.KernelIdeal.Hand

open Cert.KernelIdeal Cert.KernelIdeal.Gen Cert.Attn Idealize.ShloMosaic Idealize.ShloMosaic.TcCoe Idealize.SL.Sem
open scoped BigOperators

/-! ## What the parts of a block mean -/

/-- The keys `n, n + 1, …` of the head, as the block a unit loads. -/
def Keys {w : ℕ} (kr : ℕ → Fin 128 → ℝ) (n : ℕ) (K : (⟨3, ![1, w, 128]⟩ : Shape).Idx → EReal) : Prop :=
  ∀ (j : Fin w) (l : Fin 128), K (ix3 0 j l) = (kr (n + j.val) l : EReal)

/-- The values of the keys `n, n + 1, …`, channels first. -/
def Vals {w : ℕ} (vr : Fin 144 → ℕ → ℝ) (n : ℕ) (v : (⟨3, ![1, 144, w]⟩ : Shape).Idx → EReal) : Prop :=
  ∀ (r : Fin 144) (j : Fin w), v (ix3 0 r j) = (vr r (n + j.val) : EReal)

/-- The queries of a stream, channels first. -/
def Query (qr : Fin 128 → Fin 256 → ℝ) (Q : S128x256.Idx → EReal) : Prop :=
  ∀ (l : Fin 128) (q : Fin 256), Q (ix2 l q) = (qr l q : EReal)

/-- The score of a key with a query. -/
def score (kr : ℕ → Fin 128 → ℝ) (qr : Fin 128 → Fin 256 → ℝ) (k : ℕ) (q : Fin 256) : ℝ := ∑ l, kr k l * qr l q

/-- A block of scores: those of the keys `n, n + 1, …`. -/
def Scores {w : ℕ} (sr : ℕ → Fin 256 → ℝ) (n : ℕ) (s : (⟨3, ![1, w, 256]⟩ : Shape).Idx → EReal) : Prop :=
  ∀ (j : Fin w) (q : Fin 256), s (ix3 0 j q) = (sr (n + j.val) q : EReal)

/-- A block's maxima are real numbers. -/
def RealMax (mu : S1x1x1x256.Idx → EReal) : Prop := ∀ q : Fin 256, ∃ μ : ℝ, mu (ix4 0 0 0 q) = (μ : EReal)

/-- The invariant after the first `n` keys: the running maximum `m` is real, and the accumulator `a` scaled by
two to it is the sum of the values weighted by two to the score. -/
def Inv (vr : Fin 144 → ℕ → ℝ) (sr : ℕ → Fin 256 → ℝ) (n : ℕ) (a : S144x256.Idx → EReal) (m : S1x1x256.Idx → EReal) : Prop :=
  ∀ q : Fin 256, ∃ μ : ℝ, m (ix3 0 0 q) = (μ : EReal) ∧ ∀ r : Fin 144, ∃ y : ℝ, a (ix2 r q) = (y : EReal) ∧
    y * (2 : ℝ) ^ μ = ∑ k ∈ Finset.range n, vr r k * (2 : ℝ) ^ sr k q

/-! ## Real arithmetic under the ideal operations -/

/-- A power of two with a real exponent. -/
theorem exp2_real (x : ℝ) : (FloatOps.exp2 (F := Ideal) (φ := .f32) (x : EReal) : EReal) = (((2 : ℝ) ^ x : ℝ) : EReal) := rfl

/-- The maximum of real numbers, taken over the extended reals. -/
theorem coe_max (x y : ℝ) : ((max x y : ℝ) : EReal) = max (x : EReal) (y : EReal) :=
  EReal.coe_strictMono.monotone.map_max

/-! ## The stored values of a unit -/

section Values

variable {kr : ℕ → Fin 128 → ℝ} {qr : Fin 128 → Fin 256 → ℝ} {n : ℕ} {Q : FVec Ideal S128x256 .bf16}

/-- A score of a further block. -/
theorem pay24_apply (hQ : Query qr Q) {K : Vec Ideal S1x512x128 .bf16} (hK : Keys kr n K) (j : Fin 512) (q : Fin 256) :
    k0_pay24 Q K (ix2 j q) = (score kr qr (n + j.val) q : EReal) := by
  pointwise [k0_pay24, k0_pay23]
  unfold score
  rw [← coe_sum]
  exact Finset.sum_congr rfl fun l _ => by rw [hK j l, hQ l q, EReal.coe_mul]

/-- A further block's scores. -/
theorem scores_unit (hQ : Query qr Q) {K : Vec Ideal S1x512x128 .bf16} (hK : Keys kr n K) :
    Scores (score kr qr) n (k0_pay25 Q K) := fun j q => by
  refine Eq.trans ?_ (pay24_apply hQ hK j q)
  unfold k0_pay25
  generalize k0_pay24 Q K = s
  pointwise []

/-- A further block's maxima are real. -/
theorem max_unit (hQ : Query qr Q) {K : Vec Ideal S1x512x128 .bf16} (hK : Keys kr n K) : RealMax (k0_pay26 Q K) := fun q => by
  have h := fun j => pay24_apply hQ hK j q
  revert h
  unfold k0_pay26
  generalize k0_pay24 Q K = s
  intro h
  pointwise []
  rw [neg_inf_f32]
  exact fold_max_real (n := 511) _ fun j => ⟨_, h j⟩

end Values

section First

variable {kr : ℕ → Fin 128 → ℝ} {qr : Fin 128 → Fin 256 → ℝ} {Q : FVec Ideal S128x256 .bf16}

/-- A score of the first block. -/
theorem pay14_apply (hQ : Query qr Q) {K : Vec Ideal S1x256x128 .bf16} (hK : Keys kr 0 K) (j : Fin 256) (q : Fin 256) :
    k0_pay14 Q (k0_pay10 K) (ix2 j q) = (score kr qr (0 + j.val) q : EReal) := by
  pointwise [k0_pay14, k0_pay10]
  unfold score
  rw [← coe_sum]
  exact Finset.sum_congr rfl fun l _ => by rw [hK j l, hQ l q, zero_add, EReal.coe_mul]

/-- The first block's scores. -/
theorem scores_first (hQ : Query qr Q) {K : Vec Ideal S1x256x128 .bf16} (hK : Keys kr 0 K) :
    Scores (score kr qr) 0 (k0_pay15 Q (k0_pay10 K)) := fun j q => by
  refine Eq.trans ?_ (pay14_apply hQ hK j q)
  unfold k0_pay15
  generalize k0_pay14 Q (k0_pay10 K) = s
  pointwise []

/-- The first block's maxima are real. -/
theorem max_first (hQ : Query qr Q) {K : Vec Ideal S1x256x128 .bf16} (hK : Keys kr 0 K) : RealMax (k0_pay16 Q (k0_pay10 K)) := fun q => by
  have h := fun j => pay14_apply hQ hK j q
  revert h
  unfold k0_pay16
  generalize k0_pay14 Q (k0_pay10 K) = s
  intro h
  pointwise []
  rw [neg_inf_f32]
  exact fold_max_real (n := 255) _ fun j => ⟨_, h j⟩

end First

/-- A further block keeps the invariant. -/
theorem step {vr : Fin 144 → ℕ → ℝ} {sr : ℕ → Fin 256 → ℝ} {n : ℕ} {v : Vec Ideal S1x144x512 .bf16} {mu : Vec Ideal S1x1x1x256 .f32}
    {m : Vec Ideal S1x1x256 .f32} {s : Vec Ideal S1x512x256 .f32} {a : Vec Ideal S144x256 .f32}
    (hv : Vals vr n v) (hmu : RealMax mu) (hs : Scores sr n s) (h : Inv vr sr n a m) :
    Inv vr sr (n + 512) (k0_pay72 v mu m s a) (k0_pay71 mu m) := fun q => by
  obtain ⟨μ, hm, ha⟩ := h q
  obtain ⟨ν, hν⟩ := hmu q
  refine ⟨max μ ν, ?_, fun r => ?_⟩
  · pointwise [k0_pay71, k0_pay70, k0_pay69]
    rw [hm, hν, coe_max]
  obtain ⟨y, hy, hsum⟩ := ha r
  refine ⟨(2 : ℝ) ^ (μ - max μ ν) * y + ∑ j : Fin 512, vr r (n + j.val) * (2 : ℝ) ^ (sr (n + j.val) q - max μ ν), ?_, ?_⟩
  · pointwise [k0_pay72, k0_pay70, k0_pay69, k0_pay68]
    rw [hm, hν, hy, ← coe_max, ← EReal.coe_sub, exp2_real, EReal.coe_add, EReal.coe_mul, ← coe_sum]
    congr 1
    exact Finset.sum_congr rfl fun j _ => by rw [hv r j, hs j q, ← EReal.coe_sub, exp2_real, EReal.coe_mul]
  · have h2 : (0 : ℝ) < 2 := two_pos
    rw [add_mul, Finset.sum_mul, Finset.sum_range_add, ← hsum, Finset.sum_range (n := 512)]
    congr 1
    · rw [mul_right_comm, ← Real.rpow_add h2, sub_add_cancel, mul_comm]
    · exact Finset.sum_congr rfl fun j _ => by rw [mul_assoc, ← Real.rpow_add h2, sub_add_cancel]

/-- The first block starts it. -/
theorem first {vr : Fin 144 → ℕ → ℝ} {sr : ℕ → Fin 256 → ℝ} {v : Vec Ideal S1x144x256 .bf16} {mu : Vec Ideal S1x1x1x256 .f32}
    {s : Vec Ideal S1x256x256 .f32} (hv : Vals vr 0 v) (hmu : RealMax mu) (hs : Scores sr 0 s) :
    Inv vr sr 256 (k0_pay44 (k0_pay36 v) mu s) (k0_pay43 mu) := fun q => by
  obtain ⟨ν, hν⟩ := hmu q
  refine ⟨ν, ?_, fun r => ?_⟩
  · pointwise [k0_pay43, k0_pay42]
    rw [hν]
  refine ⟨∑ j : Fin 256, vr r (0 + j.val) * (2 : ℝ) ^ (sr (0 + j.val) q - ν), ?_, ?_⟩
  · pointwise [k0_pay44, k0_pay42, k0_pay36]
    rw [hν, ← coe_sum]
    exact Finset.sum_congr rfl fun j _ => by rw [hv r j, hs j q, zero_add, ← EReal.coe_sub, exp2_real, EReal.coe_mul]
  · have h2 : (0 : ℝ) < 2 := two_pos
    rw [Finset.sum_mul, Finset.sum_range (n := 256)]
    exact Finset.sum_congr rfl fun j _ => by rw [mul_assoc, ← Real.rpow_add h2, sub_add_cancel, zero_add]

/-! ## The buffers the body keeps the parts in -/

section Reads

variable {sig : RefSig} {κ : Kind} {sp : Space}

/-- The invariant carries over to the accumulator read back whole after its store. -/
theorem Inv.acc {vr : Fin 144 → ℕ → ℝ} {sr : ℕ → Fin 256 → ℝ} {n : ℕ} {m : S1x1x256.Idx → EReal} {w : S144x256.Idx → EReal}
    (v : View sig κ sp S144x256 .f32) {off off' : Fin 2 → ℕ} (inb : ∀ a, off a + S144x256.size a ≤ S144x256.size a)
    (inb' : ∀ a, off' a + S144x256.size a ≤ S144x256.size a) (L : List (View.Piece (Elt Ideal) S144x256 .f32)) (h : Inv vr sr n w m) :
    Inv vr sr n (v.readCov (⟨Rect.unit (s := S144x256) off' S144x256.size inb', w⟩ :: L) (Rect.unit (s := S144x256) off S144x256.size inb).toLoadRect) m := by
  exact (congrArg (fun a => Inv vr sr n a m) (View.readCov_full (Val := Elt Ideal) v inb inb' w L)).mpr h

/-- The invariant carries over to a stream's running maximum read back after its own store. -/
theorem Inv.hit {vr : Fin 144 → ℕ → ℝ} {sr : ℕ → Fin 256 → ℝ} {n : ℕ} {a : S144x256.Idx → EReal} {w : S1x1x256.Idx → EReal}
    (v : View sig κ sp S4x1x256 .f32) {off : Fin 3 → ℕ} (inb : ∀ a, off a + S1x1x256.size a ≤ S4x1x256.size a)
    (L : List (View.Piece (Elt Ideal) S4x1x256 .f32)) (h : Inv vr sr n a w) :
    Inv vr sr n a (v.readCov (⟨Rect.unit (s := S4x1x256) off S1x1x256.size inb, w⟩ :: L) (Rect.unit (s := S4x1x256) off S1x1x256.size inb).toLoadRect) := by
  rw [View.readCov_cons_toLoadRect]; exact h

/-- The invariant is kept when another stream's running maximum is stored. -/
theorem Inv.skip {vr : Fin 144 → ℕ → ℝ} {sr : ℕ → Fin 256 → ℝ} {n : ℕ} {a : S144x256.Idx → EReal} (v : View sig κ sp S4x1x256 .f32)
    {off off' : Fin 3 → ℕ} (inb : ∀ a, off a + S1x1x256.size a ≤ S4x1x256.size a) (inb' : ∀ a, off' a + S1x1x256.size a ≤ S4x1x256.size a)
    (w : S1x1x256.Idx → EReal) (L : List (View.Piece (Elt Ideal) S4x1x256 .f32)) (hd : off 0 ≠ off' 0)
    (h : Inv vr sr n a (v.readCov L (Rect.unit (s := S4x1x256) off S1x1x256.size inb).toLoadRect)) :
    Inv vr sr n a (v.readCov (⟨Rect.unit (s := S4x1x256) off' S1x1x256.size inb', w⟩ :: L) (Rect.unit (s := S4x1x256) off S1x1x256.size inb).toLoadRect) := by
  rw [View.readCov_skip]; exact h
  refine decide_eq_true ⟨0, ?_⟩
  change (1 : ℕ) = 0 ∨ (1 : ℕ) = 0 ∨ off' 0 + 1 * (1 - 1) < off 0 ∨ off 0 + 1 * (1 - 1) < off' 0
  omega

/-- A block's maxima read back after their own store are real. -/
theorem RealMax.hit {w : S1x1x1x256.Idx → EReal} (v : View sig κ sp S3x4x1x256 .f32) {off : Fin 4 → ℕ}
    (inb : ∀ a, off a + S1x1x1x256.size a ≤ S3x4x1x256.size a) (L : List (View.Piece (Elt Ideal) S3x4x1x256 .f32)) (h : RealMax w) :
    RealMax (v.readCov (⟨Rect.unit (s := S3x4x1x256) off S1x1x1x256.size inb, w⟩ :: L) (Rect.unit (s := S3x4x1x256) off S1x1x1x256.size inb).toLoadRect) := by
  rw [View.readCov_cons_toLoadRect]; exact h

/-- A block's maxima stay real when another stream's or slot's are stored. -/
theorem RealMax.skip (v : View sig κ sp S3x4x1x256 .f32) {off off' : Fin 4 → ℕ}
    (inb : ∀ a, off a + S1x1x1x256.size a ≤ S3x4x1x256.size a) (inb' : ∀ a, off' a + S1x1x1x256.size a ≤ S3x4x1x256.size a)
    (w : S1x1x1x256.Idx → EReal) (L : List (View.Piece (Elt Ideal) S3x4x1x256 .f32)) (hd : off 0 ≠ off' 0 ∨ off 1 ≠ off' 1)
    (h : RealMax (v.readCov L (Rect.unit (s := S3x4x1x256) off S1x1x1x256.size inb).toLoadRect)) :
    RealMax (v.readCov (⟨Rect.unit (s := S3x4x1x256) off' S1x1x1x256.size inb', w⟩ :: L) (Rect.unit (s := S3x4x1x256) off S1x1x1x256.size inb).toLoadRect) := by
  rw [View.readCov_skip]; exact h
  rcases hd with hd | hd
  · refine decide_eq_true ⟨0, ?_⟩
    change (1 : ℕ) = 0 ∨ (1 : ℕ) = 0 ∨ off' 0 + 1 * (1 - 1) < off 0 ∨ off 0 + 1 * (1 - 1) < off' 0
    omega
  · refine decide_eq_true ⟨1, ?_⟩
    change (1 : ℕ) = 0 ∨ (1 : ℕ) = 0 ∨ off' 1 + 1 * (1 - 1) < off 1 ∨ off 1 + 1 * (1 - 1) < off' 1
    omega

/-- A block of scores read back after its own store. -/
theorem Scores.hit {W : ℕ} {sr : ℕ → Fin 256 → ℝ} {n : ℕ} {w : (⟨3, ![1, W, 256]⟩ : Shape).Idx → EReal} (v : View sig κ sp S4x512x256 .f32)
    {off off' : Fin 3 → ℕ} (inb : ∀ a, off a + (![1, W, 256] : Fin 3 → ℕ) a ≤ S4x512x256.size a)
    (inb' : ∀ a, off' a + (![1, W, 256] : Fin 3 → ℕ) a ≤ S4x512x256.size a)
    (L : List (View.Piece (Elt Ideal) S4x512x256 .f32)) (ho : off = off') (h : Scores sr n w) :
    Scores (w := W) sr n (v.readCov (⟨Rect.unit (s := S4x512x256) off' ![1, W, 256] inb', w⟩ :: L) (Rect.unit (s := S4x512x256) off ![1, W, 256] inb).toLoadRect) := by
  subst ho
  rw [View.readCov_cons_toLoadRect]; exact h

/-- A block of scores is kept when another stream's is stored. -/
theorem Scores.skip {W W' : ℕ} {sr : ℕ → Fin 256 → ℝ} {n : ℕ} (v : View sig κ sp S4x512x256 .f32)
    {off off' off'' : Fin 3 → ℕ} (inb : ∀ a, off a + (![1, W, 256] : Fin 3 → ℕ) a ≤ S4x512x256.size a)
    (inb' : ∀ a, off' a + (![1, W', 256] : Fin 3 → ℕ) a ≤ S4x512x256.size a) (w : (⟨3, ![1, W', 256]⟩ : Shape).Idx → EReal)
    (L : List (View.Piece (Elt Ideal) S4x512x256 .f32)) (ho : off = off'') (hd : off'' 0 ≠ off' 0)
    (h : Scores (w := W) sr n (v.readCov L (Rect.unit (s := S4x512x256) off ![1, W, 256] inb).toLoadRect)) :
    Scores (w := W) sr n (v.readCov (⟨Rect.unit (s := S4x512x256) off' ![1, W', 256] inb', w⟩ :: L) (Rect.unit (s := S4x512x256) off ![1, W, 256] inb).toLoadRect) := by
  subst ho
  rw [View.readCov_skip]; exact h
  refine decide_eq_true ⟨0, ?_⟩
  change (1 : ℕ) = 0 ∨ (1 : ℕ) = 0 ∨ off' 0 + 1 * (1 - 1) < off 0 ∨ off 0 + 1 * (1 - 1) < off' 0
  omega

/-- The keys loaded from an offset on. -/
theorem Keys.read {w : ℕ} {kr : ℕ → Fin 128 → ℝ} {arg : Memref sig κ sp S1x16640x128 .bf16} (ha : arg.IsWhole) {x : S1x16640x128.Idx → EReal}
    (hx : ∀ (k : Fin 16640) (l : Fin 128), x (ix3 0 k l) = (kr k.val l : EReal)) {n : ℕ}
    (inb : ∀ a, (![0, n, 0] : Fin 3 → ℕ) a + (![1, w, 128] : Fin 3 → ℕ) a ≤ S1x16640x128.size a) :
    Keys (w := w) kr n (View.readAt (Elt Ideal) arg.view (Rect.unit (s := S1x16640x128) ![0, n, 0] ![1, w, 128] inb).toLoadRect (ha.unread x)) := fun j l => by
  have hj : n + j.val < 16640 := lt_of_lt_of_le (Nat.add_lt_add_left j.isLt n) (inb 1)
  refine (Memref.IsWhole.readAt_unread (Val := Elt Ideal) ha x _ _).trans ?_
  refine Eq.trans (congrArg x (a₂ := ix3 0 ⟨n + j.val, hj⟩ l) ?_) (hx ⟨n + j.val, hj⟩ l)
  funext a
  fin_cases a <;> apply Fin.ext <;> simp [ix3, LoadRect.idx, Rect.unit, Rect.toLoadRect]

/-- The values loaded from an offset on. -/
theorem Vals.read {w : ℕ} {vr : Fin 144 → ℕ → ℝ} {arg : Memref sig κ sp S1x144x16640 .bf16} (ha : arg.IsWhole) {x : S1x144x16640.Idx → EReal}
    (hx : ∀ (r : Fin 144) (k : Fin 16640), x (ix3 0 r k) = (vr r k.val : EReal)) {n : ℕ}
    (inb : ∀ a, (![0, 0, n] : Fin 3 → ℕ) a + (![1, 144, w] : Fin 3 → ℕ) a ≤ S1x144x16640.size a) :
    Vals (w := w) vr n (View.readAt (Elt Ideal) arg.view (Rect.unit (s := S1x144x16640) ![0, 0, n] ![1, 144, w] inb).toLoadRect (ha.unread x)) := fun r j => by
  have hj : n + j.val < 16640 := lt_of_lt_of_le (Nat.add_lt_add_left j.isLt n) (inb 2)
  refine (Memref.IsWhole.readAt_unread (Val := Elt Ideal) ha x _ _).trans ?_
  refine Eq.trans (congrArg x (a₂ := ix3 0 r ⟨n + j.val, hj⟩) ?_) (hx r ⟨n + j.val, hj⟩)
  funext a
  fin_cases a <;> apply Fin.ext <;> simp [ix3, LoadRect.idx, Rect.unit, Rect.toLoadRect]

end Reads

end Cert.KernelIdeal.Hand
-- ==== Proof.AttnChain.lean ====
module

public import proofs.«01_k».proof.Proof.AttnStep

@[expose] public section

set_option maxRecDepth 16384

noncomputable section

/-! # The four streams, block by block

The four accumulators the body ends with, two tiles of queries times two score maps, each satisfy the
invariant over all the keys. The body's 33 blocks are followed from the last to the first. Each value it reads
back from a buffer is found under the later stores to the buffer's other rows. -/

namespace Cert.KernelIdeal.Hand

open Cert.KernelIdeal Cert.KernelIdeal.Gen Idealize.ShloMosaic Idealize.ShloMosaic.TcCoe Idealize.SL.Sem
open scoped BigOperators

variable (c : Dev nD) (i : grid0.Coords) (arg5 : Memref sig .tc .vmem S1x128x512 .f32) (harg5 : arg5.IsWhole)
  (arg6 : Memref sig .tc .vmem S1x16640x128 .bf16) (harg6 : arg6.IsWhole) (arg7 : Memref sig .tc .vmem S1x144x16640 .bf16) (harg7 : arg7.IsWhole)
  (arg9 arg10 arg11 : Memref sig .tc .vmem S4x512x256 .f32) (arg12 : Memref sig .tc .vmem S4x1x256 .f32) (arg13 : Memref sig .tc .vmem S3x4x1x256 .f32)
  (arg14 arg15 arg16 arg17 : Memref sig .tc .vmem S144x256 .f32)
  (x2 : Vec Ideal S1x128x512 .f32) (x3 : Vec Ideal S1x16640x128 .bf16) (x4 : Vec Ideal S1x144x16640 .bf16)
  {kr : ℕ → Fin 128 → ℝ} {vr : Fin 144 → ℕ → ℝ}

/-- An accumulator read whole. -/
abbrev whole (arg : Memref sig .tc .vmem S144x256 .f32) (L : List (View.Piece (Elt Ideal) S144x256 .f32)) : S144x256.Idx → EReal :=
  arg.view.readCov L (Rect.unit (s := S144x256) ![0, 0] S144x256.size inb_S144x256_S144x256_0_0).toLoadRect

-- the operations are compared by their operands, not by what they compute
attribute [local irreducible] shapeCast broadcastTo multiReduction addf mulf subf maximumf exp2 truncf constant select cmpi
  View.readCov View.readAt Memref.IsWhole.unread k0_off1 k0_off2 k0_off3 k0_off4 k0_off5 k0_off7 k0_off8 k0_off9

set_option maxHeartbeats 8000000 in
open kernelRun0_A.sl in
/-- Each stream's accumulator and its running maximum satisfy the invariant over the 16640 keys. -/
theorem chains (hk : ∀ (k : Fin 16640) (l : Fin 128), x3 (ix3 0 k l) = (kr k.val l : EReal))
    (hv : ∀ (r : Fin 144) (k : Fin 16640), x4 (ix3 0 r k) = (vr r k.val : EReal)) (qr : Fin 128 → Fin 256 → ℝ) :
    (Query qr (r (F := Ideal) c arg5 harg5 x2) → ∃ m, Inv vr (score kr qr) 16640 (whole arg14
      (HS5_33 c i arg5 harg5 arg6 harg6 arg7 harg7 arg9 arg10 arg11 arg12 arg13 arg14 x2 x3 x4)) m) ∧
    (Query qr (r_1 (F := Ideal) c arg5 harg5 x2) → ∃ m, Inv vr (score kr qr) 16640 (whole arg15
      (HS6_33 c i arg5 harg5 arg6 harg6 arg7 harg7 arg9 arg10 arg11 arg12 arg13 arg15 x2 x3 x4)) m) ∧
    (Query qr (r_2 (F := Ideal) c arg5 harg5 x2) → ∃ m, Inv vr (score kr qr) 16640 (whole arg16
      (HS7_33 c i arg5 harg5 arg6 harg6 arg7 harg7 arg9 arg10 arg11 arg12 arg13 arg16 x2 x3 x4)) m) ∧
    (Query qr (r_3 (F := Ideal) c arg5 harg5 x2) → ∃ m, Inv vr (score kr qr) 16640 (whole arg17
      (HS8_33 c i arg5 harg5 arg6 harg6 arg7 harg7 arg9 arg10 arg11 arg12 arg13 arg17 x2 x3 x4)) m) := by
  refine ⟨?_, ?_, ?_, ?_⟩
  all_goals
    intro hq
    apply Exists.intro
    apply Inv.acc
    iterate 32
      refine step (Vals.read harg7 hv _) ?_ ?_ (Inv.acc _ _ _ _ ?_)
      · repeat refine RealMax.skip _ _ _ _ _ (by decide) ?_
        exact RealMax.hit _ _ _ (max_unit hq (Keys.read harg6 hk _))
      · repeat refine Scores.skip _ _ _ _ _ (by first | exact placed_k0_off5 i | exact placed_k0_off7 i | exact placed_k0_off8 i | exact placed_k0_off9 i) (by decide) ?_
        exact Scores.hit _ _ _ _ (by first | exact placed_k0_off5 i | exact placed_k0_off7 i | exact placed_k0_off8 i | exact placed_k0_off9 i)
          (scores_unit hq (Keys.read harg6 hk _))
      repeat refine Inv.skip _ _ _ _ _ (by decide) ?_
      refine Inv.hit _ _ _ ?_
    refine first (Vals.read harg7 hv _) ?_ ?_
    · repeat refine RealMax.skip _ _ _ _ _ (by decide) ?_
      exact RealMax.hit _ _ _ (max_first hq (Keys.read harg6 hk _))
    · repeat refine Scores.skip _ _ _ _ _ (by first | exact placed_k0_off1 i | exact placed_k0_off2 i | exact placed_k0_off3 i | exact placed_k0_off4 i) (by decide) ?_
      exact Scores.hit _ _ _ _ (by first | exact placed_k0_off1 i | exact placed_k0_off2 i | exact placed_k0_off3 i | exact placed_k0_off4 i)
        (scores_first hq (Keys.read harg6 hk _))

end Cert.KernelIdeal.Hand
-- ==== Proof.AttnOut.lean ====
module

public import proofs.«01_k».proof.Proof.AttnChain
public import proofs.«01_k».proof.Proof.AttnSpec

@[expose] public section

set_option maxRecDepth 16384

noncomputable section

/-! # What one grid point leaves in the output block

The accumulators are divided by their row of summed weights, the two maps are subtracted and the difference is
normalised. With the invariant over all the keys, both tiles of the block hold the attention of their queries. -/

namespace Cert.KernelIdeal.Hand

open Cert.KernelIdeal Cert.KernelIdeal.Gen Cert.Attn Idealize.ShloMosaic Idealize.ShloMosaic.TcCoe Idealize.SL.Sem
open scoped BigOperators

/-! ## The queries of the four streams -/

/-- The queries of one map: the scaled channels of its half, zero in the other half. -/
def masked (p : Fin 2) (x : Fin 128 → Fin 256 → ℝ) (l : Fin 128) (q : Fin 256) : ℝ :=
  if l.val / 64 = p.val then x l q * ((1 / 8) * (Real.log 2)⁻¹) else 0

/-- A sum over the channels that keeps one half is the sum over that half. -/
theorem sum_half (p : Fin 2) (f : Fin 128 → ℝ) : (∑ l : Fin 128, if l.val / 64 = p.val then f l else 0) = ∑ l, f (half p l) := by
  rw [← Finset.sum_filter]
  refine (Finset.sum_bij (fun l _ => half p l) ?_ ?_ ?_ ?_).symm
  · intro l _
    simp only [Finset.mem_filter, Finset.mem_univ, true_and, half]
    omega
  · intro l _ l' _ h
    have h := congrArg Fin.val h
    simp only [half] at h
    apply Fin.ext; omega
  · intro l hl
    simp only [Finset.mem_filter, Finset.mem_univ, true_and] at hl
    exact ⟨⟨l.val % 64, by omega⟩, Finset.mem_univ _, Fin.ext (by simp only [half]; omega)⟩
  · intro l _; rfl

/-- The scale turns powers of two into exponentials. -/
theorem two_pow_score (kr : ℕ → Fin 128 → ℝ) (p : Fin 2) (x : Fin 128 → Fin 256 → ℝ) (k : ℕ) (q : Fin 256) :
    (2 : ℝ) ^ score kr (masked p x) k q = Real.exp (dot (fun l => x (half p l) q) (fun l => kr k (half p l))) := by
  have h2 : Real.log 2 ≠ 0 := (Real.log_pos one_lt_two).ne'
  rw [Real.rpow_def_of_pos two_pos]
  congr 1
  have e : score kr (masked p x) k q = ∑ l : Fin 128, if l.val / 64 = p.val then kr k l * (x l q * ((1 / 8) * (Real.log 2)⁻¹)) else 0 :=
    Finset.sum_congr rfl fun l _ => by unfold masked; split <;> simp
  rw [e, sum_half, dot, Finset.mul_sum, Finset.sum_div]
  refine Finset.sum_congr rfl fun l _ => ?_
  field_simp

/-- Selecting the channels below 64 selects the first half. -/
theorem lt64 : ∀ l : Fin 128, ∀ a b : EReal, Scalar.select (IntOp.cmpi CmpIPredicate.slt (BitVec.ofNat 32 l.val) 64#32) a b =
    if l.val / 64 = (0 : Fin 2).val then a else b := fun l a b => by
  have h : ∀ l : Fin 128, IntOp.cmpi CmpIPredicate.slt (BitVec.ofNat 32 l.val) 64#32 = if l.val / 64 = (0 : Fin 2).val then 1 else 0 := by
    decide +kernel
  rw [h]; split <;> rfl

/-- Selecting the channels from 64 on selects the second half. -/
theorem ge64 : ∀ l : Fin 128, ∀ a b : EReal, Scalar.select (IntOp.cmpi CmpIPredicate.sge (BitVec.ofNat 32 l.val) 64#32) a b =
    if l.val / 64 = (1 : Fin 2).val then a else b := fun l a b => by
  have h : ∀ l : Fin 128, IntOp.cmpi CmpIPredicate.sge (BitVec.ofNat 32 l.val) 64#32 = if l.val / 64 = (1 : Fin 2).val then 1 else 0 := by
    decide +kernel
  rw [h]; split <;> rfl

section Queries

variable {x : Fin 128 → Fin 256 → ℝ} {w : Vec Ideal S1x128x256 .f32}

/-- The named scale is an eighth over the logarithm of two. -/
theorem q_scale : (Named.named (F := Idealize.ShloMosaic.Ideal) (φ := .f32) κ "q_scale" 0x3E38AA3B#32 : EReal) = (((1 / 8) * (Real.log 2)⁻¹ : ℝ) : EReal) :=
  IdealRules.named_const.ideal_named_scalar _ _ _ _ rfl

/-- Scaling a real query and keeping one half leaves the real masked query. -/
theorem masked_coe (p : Fin 2) (l : Fin 128) (q : Fin 256) :
    (if l.val / 64 = p.val then ((x l q * ((1 / 8) * (Real.log 2)⁻¹) : ℝ) : EReal) else 0) = (masked p x l q : EReal) := by
  unfold masked; split <;> simp

/-- The first tile's queries for the first map. -/
theorem query4 (hw : ∀ l q, w (ix3 0 l q) = (x l q : EReal)) : Query (masked 0 x) (k0_pay4 w) := fun l q => by
  pointwise [k0_pay4, k0_pay2, k0_pay3]
  rw [lt64, hw, q_scale, ← EReal.coe_mul, ← masked_coe]

/-- The first tile's queries for the second map. -/
theorem query5 (hw : ∀ l q, w (ix3 0 l q) = (x l q : EReal)) : Query (masked 1 x) (k0_pay5 w) := fun l q => by
  pointwise [k0_pay5, k0_pay2, k0_pay3]
  rw [ge64, hw, q_scale, ← EReal.coe_mul, ← masked_coe]

/-- The second tile's queries for the first map. -/
theorem query8 (hw : ∀ l q, w (ix3 0 l q) = (x l q : EReal)) : Query (masked 0 x) (k0_pay8 w) := fun l q => by
  pointwise [k0_pay8, k0_pay6, k0_pay7]
  rw [lt64, hw, q_scale, ← EReal.coe_mul, ← masked_coe]

/-- The second tile's queries for the second map. -/
theorem query9 (hw : ∀ l q, w (ix3 0 l q) = (x l q : EReal)) : Query (masked 1 x) (k0_pay9 w) := fun l q => by
  pointwise [k0_pay9, k0_pay6, k0_pay7]
  rw [ge64, hw, q_scale, ← EReal.coe_mul, ← masked_coe]

end Queries

/-! ## The accumulators divided -/

section Quotient

variable {kr : ℕ → Fin 128 → ℝ} {vr : Fin 144 → ℕ → ℝ} {p : Fin 2} {x : Fin 128 → Fin 256 → ℝ}

/-- A row of the accumulator over the row of summed weights is the mean of the values. -/
theorem Inv.quot (h1 : ∀ k, vr 128 k = 1) {a : S144x256.Idx → EReal} (h : ∃ m, Inv vr (score kr (masked p x)) 16640 a m) (d : Fin 128) (q : Fin 256) :
    Ideal.div (a (ix2 ⟨d.val, by omega⟩ q)) (a (ix2 128 q)) =
      ((mean (fun k : Fin 16640 => dot (fun l => x (half p l) q) (fun l => kr k.val (half p l))) (fun k => vr ⟨d.val, by omega⟩ k.val) : ℝ) : EReal) := by
  obtain ⟨m, h⟩ := h
  obtain ⟨μ, -, h⟩ := h q
  obtain ⟨y, hy, ey⟩ := h ⟨d.val, by omega⟩
  obtain ⟨z, hz, ez⟩ := h 128
  simp only [two_pow_score, h1, one_mul, Finset.sum_range] at ey ez
  have hμ : (0 : ℝ) < 2 ^ μ := Real.rpow_pos_of_pos two_pos μ
  have hz0 : z ≠ 0 := fun h0 => by
    rw [h0, zero_mul] at ez
    exact (sum_exp_pos (n := 16639) _).ne ez
  rw [hy, hz, div_real _ _ hz0, mean, ← ey, ← ez, mul_div_mul_right _ _ hμ.ne']

end Quotient

section Rows

variable {sig : RefSig} {κ : Kind} {sp : Space} (v : View sig κ sp S144x256 .f32) (L : List (View.Piece (Elt Ideal) S144x256 .f32))

/-- The first 128 rows of an accumulator are its values' rows. -/
theorem rows_values (d : Fin 128) (q : Fin 256) :
    v.readCov L (Rect.unit (s := S144x256) ![0, 0] S128x256.size inb_S144x256_S128x256_0_0).toLoadRect (ix2 d q) =
      v.readCov L (Rect.unit (s := S144x256) ![0, 0] S144x256.size inb_S144x256_S144x256_0_0).toLoadRect (ix2 ⟨d.val, by omega⟩ q) := by
  unfold View.readCov
  rw [View.readAt_apply, View.readAt_apply]
  congr 1
  funext a
  fin_cases a <;> apply Fin.ext <;> simp [ix2, LoadRect.idx, Rect.unit, Rect.toLoadRect]

/-- Row 128 of an accumulator is its row of summed weights. -/
theorem rows_weights (q : Fin 256) :
    v.readCov L (Rect.unit (s := S144x256) ![128, 0] S1x256.size inb_S144x256_S1x256_128_0).toLoadRect (ix2 0 q) =
      v.readCov L (Rect.unit (s := S144x256) ![0, 0] S144x256.size inb_S144x256_S144x256_0_0).toLoadRect (ix2 128 q) := by
  unfold View.readCov
  rw [View.readAt_apply, View.readAt_apply]
  congr 1
  funext a
  fin_cases a <;> apply Fin.ext <;> simp [ix2, LoadRect.idx, Rect.unit, Rect.toLoadRect]

end Rows

/-! ## The stored tiles -/

/-- The weight of the second map from its four rows. -/
theorem lambda_apply (a : Vec Ideal S4x64 .f32) : k0_pay1124 a (ix2 0 0) =
    Ideal.exp (∑ l, a (ix2 0 l) * a (ix2 1 l)) - Ideal.exp (∑ l, a (ix2 2 l) * a (ix2 3 l)) + Ideal.ofBits FTy.f32 1045220557#32 := by
  pointwise [k0_pay1124]

/-- An entry of the first tile is the normed difference of the two maps' quotients. -/
theorem tile0_apply (t : FVec Ideal S1x1 .f32) (y : Vec Ideal S128x256 .f32) (z : Vec Ideal S1x256 .f32) (y' : Vec Ideal S128x256 .f32)
    (z' : Vec Ideal S1x256 .f32) (g : Vec Ideal S1x128 .f32) (q : Fin 256) (d : Fin 128) :
    k0_pay1129 t (k0_pay1125 y z) (k0_pay1126 y' z') g (ix3 0 q d) =
      finish (fun e => Ideal.div (y (ix2 e q)) (z (ix2 0 q)) - t (ix2 0 0) * Ideal.div (y' (ix2 e q)) (z' (ix2 0 q)))
        (fun e => g (ix2 0 e)) d := by
  pointwise [k0_pay1129, k0_pay1125, k0_pay1126]
  rfl

/-- An entry of the second tile is the normed difference of the two maps' quotients. -/
theorem tile1_apply (t : FVec Ideal S1x1 .f32) (y : Vec Ideal S128x256 .f32) (z : Vec Ideal S1x256 .f32) (y' : Vec Ideal S128x256 .f32)
    (z' : Vec Ideal S1x256 .f32) (g : Vec Ideal S1x128 .f32) (q : Fin 256) (d : Fin 128) :
    k0_pay1 (k0_pay1130 t (k0_pay1127 y z) y' (k0_pay1128 z') g) k0_pay1131 (ix3 0 q d) =
      finish (fun e => Ideal.div (y (ix2 e q)) (z (ix2 0 q)) - t (ix2 0 0) * Ideal.div (y' (ix2 e q)) (z' (ix2 0 q)))
        (fun e => g (ix2 0 e)) d := by
  pointwise [k0_pay1, k0_pay1130, k0_pay1127, k0_pay1128, k0_pay1131]
  rfl

/-- The normed difference of the two maps' means is the head's value. -/
theorem finish_head {n : ℕ} {w : ℝ} {w' : EReal} {s : Fin 2 → Fin n → ℝ} {v : Fin n → Fin 128 → ℝ} {g : Fin 128 → EReal} {o o' : Fin 128 → EReal}
    (ho : ∀ e, o e = ((mean (s 0) (v · e) : ℝ) : EReal)) (ho' : ∀ e, o' e = ((mean (s 1) (v · e) : ℝ) : EReal)) (hw : w' = (w : EReal)) (d : Fin 128) :
    finish (fun e => o e - w' * o' e) g d = head w s v g d := by
  unfold head
  simp only [ho, ho', hw, EReal.coe_sub, EReal.coe_mul]

section Block

variable (c : Dev nD) (i : grid0.Coords) (arg3 : Memref sig .tc .vmem S4x64 .f32) (harg3 : arg3.IsWhole)
  (arg4 : Memref sig .tc .vmem S1x128 .f32) (harg4 : arg4.IsWhole) (arg5 : Memref sig .tc .vmem S1x128x512 .f32) (harg5 : arg5.IsWhole)
  (arg6 : Memref sig .tc .vmem S1x16640x128 .bf16) (harg6 : arg6.IsWhole) (arg7 : Memref sig .tc .vmem S1x144x16640 .bf16) (harg7 : arg7.IsWhole)
  (arg9 arg10 arg11 : Memref sig .tc .vmem S4x512x256 .f32) (arg12 : Memref sig .tc .vmem S4x1x256 .f32) (arg13 : Memref sig .tc .vmem S3x4x1x256 .f32)
  (arg14 arg15 arg16 arg17 : Memref sig .tc .vmem S144x256 .f32)
  (x0 : Vec Ideal S4x64 .f32) (x1 : Vec Ideal S1x128 .f32)
  (x2 : Vec Ideal S1x128x512 .f32) (x3 : Vec Ideal S1x16640x128 .bf16) (x4 : Vec Ideal S1x144x16640 .bf16)
  {kr : ℕ → Fin 128 → ℝ} {vr : Fin 144 → ℕ → ℝ} {x : Fin 128 → Fin 256 → ℝ} {w : ℝ}

/-- The quotient of the rows read from an accumulator is the mean of the values. -/
theorem quot_rows (h1 : ∀ k, vr 128 k = 1) {p : Fin 2} (arg : Memref sig .tc .vmem S144x256 .f32) (L : List (View.Piece (Elt Ideal) S144x256 .f32))
    (h : ∃ m, Inv vr (score kr (masked p x)) 16640 (whole arg L) m) (q : Fin 256) (d : Fin 128) :
    Ideal.div (arg.view.readCov L (Rect.unit (s := S144x256) ![0, 0] S128x256.size inb_S144x256_S128x256_0_0).toLoadRect (ix2 d q))
        (arg.view.readCov L (Rect.unit (s := S144x256) ![128, 0] S1x256.size inb_S144x256_S1x256_128_0).toLoadRect (ix2 0 q)) =
      ((mean (fun k : Fin 16640 => dot (fun l => x (half p l) q) (fun l => kr k.val (half p l))) (fun k => vr ⟨d.val, by omega⟩ k.val) : ℝ) : EReal) := by
  rw [rows_values, rows_weights]
  exact Inv.quot h1 h d q

attribute [local irreducible] shapeCast broadcastTo multiReduction addf mulf subf maximumf exp2 truncf constant select cmpi
  View.readCov View.readAt Memref.IsWhole.unread k0_off1 k0_off2 k0_off3 k0_off4 k0_off5 k0_off7 k0_off8 k0_off9

set_option maxHeartbeats 4000000 in
set_option maxRecDepth 100000 in
open kernelRun0_A.sl in
/-- The first tile of the block. -/
theorem tile0 (hk : ∀ (k : Fin 16640) (l : Fin 128), x3 (ix3 0 k l) = (kr k.val l : EReal))
    (hv : ∀ (r : Fin 144) (k : Fin 16640), x4 (ix3 0 r k) = (vr r k.val : EReal)) (h1 : ∀ k, vr 128 k = 1)
    (ha : Query (masked 0 x) (r (F := Ideal) c arg5 harg5 x2)) (hb : Query (masked 1 x) (r_1 (F := Ideal) c arg5 harg5 x2))
    (hw : r_50 (F := Ideal) c arg3 harg3 x0 (ix2 0 0) = (w : EReal)) (g : Vec Ideal S1x128 .f32) (q : Fin 256) (d : Fin 128) :
    k0_pay1129 (r_50 (F := Ideal) c arg3 harg3 x0)
        (r_51 (F := Ideal) c i arg5 harg5 arg6 harg6 arg7 harg7 arg9 arg10 arg11 arg12 arg13 arg14 x2 x3 x4)
        (r_52 (F := Ideal) c i arg5 harg5 arg6 harg6 arg7 harg7 arg9 arg10 arg11 arg12 arg13 arg15 x2 x3 x4) g (ix3 0 q d) =
      head w (fun p (key : Fin 16640) => dot (fun l => x (half p l) q) (fun l => kr key.val (half p l)))
        (fun key e => vr ⟨e.val, by omega⟩ key.val) (fun e => g (ix2 0 e)) d :=
  (tile0_apply _ _ _ _ _ _ q d).trans (finish_head
    (fun e => quot_rows h1 arg14 _ ((chains c i arg5 harg5 arg6 harg6 arg7 harg7 arg9 arg10 arg11 arg12 arg13 arg14 arg15 arg14 arg15 x2 x3 x4 hk hv (masked 0 x)).1 ha) q e)
    (fun e => quot_rows h1 arg15 _ ((chains c i arg5 harg5 arg6 harg6 arg7 harg7 arg9 arg10 arg11 arg12 arg13 arg14 arg15 arg14 arg15 x2 x3 x4 hk hv (masked 1 x)).2.1 hb) q e)
    hw d)

set_option maxHeartbeats 4000000 in
set_option maxRecDepth 100000 in
open kernelRun0_A.sl in
/-- The second tile of the block. -/
theorem tile1 (hk : ∀ (k : Fin 16640) (l : Fin 128), x3 (ix3 0 k l) = (kr k.val l : EReal))
    (hv : ∀ (r : Fin 144) (k : Fin 16640), x4 (ix3 0 r k) = (vr r k.val : EReal)) (h1 : ∀ k, vr 128 k = 1)
    (ha : Query (masked 0 x) (r_2 (F := Ideal) c arg5 harg5 x2)) (hb : Query (masked 1 x) (r_3 (F := Ideal) c arg5 harg5 x2))
    (hw : r_50 (F := Ideal) c arg3 harg3 x0 (ix2 0 0) = (w : EReal)) (q : Fin 256) (d : Fin 128) :
    k0_pay1 (r_55 (F := Ideal) c i arg3 harg3 arg4 harg4 arg5 harg5 arg6 harg6 arg7 harg7 arg9 arg10 arg11 arg12 arg13 arg16 arg17 x0 x1 x2 x3 x4)
        (k0_pay1131 (F := Ideal)) (ix3 0 q d) =
      head w (fun p (key : Fin 16640) => dot (fun l => x (half p l) q) (fun l => kr key.val (half p l)))
        (fun key e => vr ⟨e.val, by omega⟩ key.val)
        (fun e => (View.readAt (Elt Ideal) arg4.view (Rect.unit (s := S1x128) ![0, 0] S1x128.size inb_S1x128_S1x128_0_0).toLoadRect (harg4.unread x1)) (ix2 0 e)) d :=
  (tile1_apply _ _ _ _ _ _ q d).trans (finish_head
    (fun e => quot_rows h1 arg16 _ ((chains c i arg5 harg5 arg6 harg6 arg7 harg7 arg9 arg10 arg11 arg12 arg13 arg16 arg17 arg16 arg17 x2 x3 x4 hk hv (masked 0 x)).2.2.1 ha) q e)
    (fun e => quot_rows h1 arg17 _ ((chains c i arg5 harg5 arg6 harg6 arg7 harg7 arg9 arg10 arg11 arg12 arg13 arg16 arg17 arg16 arg17 x2 x3 x4 hk hv (masked 1 x)).2.2.2 hb) q e)
    hw d)

end Block

end Cert.KernelIdeal.Hand
end
-- ==== Proof.AttnRead.lean ====
module

public import proofs.«01_k».proof.Proof.AttnSpec
public import proofs.«01_k».proof.Proof.Gen.KernelIdeal.Frame
public import Idealize.ShloMosaic.Lib.Pipeline.ValueKit
public import Idealize.ShloMosaic.Lib.Pointwise
public import Idealize.ShloMosaic.Lib.Pipeline.ReadBack
public import Idealize.ShloMosaic.Lib.WholeRead
public import proofs.«01_k».proof.Proof.Gen.KernelIdeal.Value

@[expose] public section

set_option maxRecDepth 16384

noncomputable section

/-! # The blocks a grid point reads, entry by entry -/

namespace Cert.KernelIdeal.Hand

open Cert.KernelIdeal Cert.KernelIdeal.Gen Cert.Attn Idealize.ShloMosaic Idealize.ShloMosaic.TcCoe Idealize.SL.Sem
open scoped BigOperators

variable (m : (ℓ : Loc nD τ sig) → Buf (Elt Ideal) ℓ)

/-- The block every window is at, per grid point. -/
theorem idx : ∀ t : Fin cfg0.N, win0_0.index t = ![0, 0] ∧ win0_1.index t = ![0, 0]
    ∧ win0_2.index t = ![(grid0.coords t 0).val, (grid0.coords t 1).val, (grid0.coords t 2).val]
    ∧ win0_3.index t = ![(grid0.coords t 0).val, 0, (grid0.coords t 1).val]
    ∧ win0_4.index t = ![(grid0.coords t 0).val, (grid0.coords t 1).val, 0]
    ∧ win0_5.index t = ![(grid0.coords t 0).val, (grid0.coords t 2).val, (grid0.coords t 1).val]
    ∧ (grid0.coords t 0).val < 2 ∧ (grid0.coords t 1).val < 4 ∧ (grid0.coords t 2).val < 32 :=
  (by decide +kernel : ∀ t : Fin grid0.N, _)

/-- The batch entry of a grid point. -/
def bat (t : Fin cfg0.N) : Fin 2 := ⟨(grid0.coords t 0).val, (idx t).2.2.2.2.2.2.1⟩
/-- The head of a grid point. -/
def hea (t : Fin cfg0.N) : Fin 4 := ⟨(grid0.coords t 1).val, (idx t).2.2.2.2.2.2.2.1⟩
/-- The token of a row of a grid point's block. -/
def tok (t : Fin cfg0.N) (y : Fin 512) : Fin 16384 :=
  ⟨(grid0.coords t 2).val * 512 + y.val, by have := (idx t).2.2.2.2.2.2.2.2; omega⟩

/-- The weight rows' window holds the argument. -/
theorem read_lambda (c : Dev nD) (t : Fin cfg0.N) (j : Fin 4) (l : Fin 64) :
    iblk m c 0 t (ix2 j l) = m ((c.tc : Thread nD τ).loc main_arg3) (ix2 j l) := by
  blk_ext [iblk, V, idx t]

/-- The gain's window holds the argument. -/
theorem read_gain (c : Dev nD) (t : Fin cfg0.N) (e : Fin 128) :
    iblk m c 1 t (ix2 0 e) = m ((c.tc : Thread nD τ).loc main_arg4) (ix1 e) := by
  blk_ext! [iblk, V, idx t]

/-- The keys' window holds the channels of the grid point's head. -/
theorem read_k (c : Dev nD) (t : Fin cfg0.N) (k : Fin 16640) (l : Fin 128) :
    iblk m c 3 t (ix3 0 k l) = m ((c.tc : Thread nD τ).loc main_arg1) (ix3 (bat t) k (ch (hea t) l)) := by
  unfold bat hea ch
  blk_ext! [iblk, V, idx t]

/-- The queries' window holds the channels of the grid point's head at its tokens. -/
theorem read_q (c : Dev nD) (t : Fin cfg0.N) (l : Fin 128) (y : Fin 512) :
    iblk m c 2 t (ix3 0 l y) = m ((c.tc : Thread nD τ).loc main_arg0) (ix3 (bat t) (tok t y) (ch (hea t) l)) := by
  unfold bat hea tok ch
  blk_ext! [iblk, V, idx t]

/-- The values' array is the concatenation, reshaped. -/
theorem entry_last (σ : Valuation τ sig (Elt Ideal)) : StableHlo.after ((hostOps0 (F := Ideal)).drop 8) σ (Proc.devRef .tc main_v7) = shapeCast S2x576x16640
    (concatenate S2x4x144x16640 2 [⟨S2x4x128x16640, σ (Proc.devRef .tc main_v3)⟩, ⟨S2x4x1x16640, σ (Proc.devRef .tc main_v4)⟩, ⟨S2x4x15x16640, σ (Proc.devRef .tc main_v5)⟩] concatenates_S2x4x128x16640_S2x4x1x16640_S2x4x15x16640_S2x4x144x16640_d2) shapeCasts_S2x4x144x16640_S2x576x16640 := by
  simp only [hostOps0, List.drop, StableHlo.after_cons, StableHlo.after_nil]
  rw [StableHlo.unary_result_ne, StableHlo.unary_result_ne, StableHlo.reshape_result', StableHlo.nary_result']
  · rfl
  · decide
  · decide

/-- The transposed values before the concatenation. -/
theorem entry_v3 (σ : Valuation τ sig (Elt Ideal)) : StableHlo.after ((hostOps0 (F := Ideal)).take 8) σ (Proc.devRef .tc main_v3) =
    (truncf .bf16 (shapeCast S2x4x128x16640 (transpose S2x512x16640 [0, 2, 1] (σ (Proc.devRef .tc main_arg2)) transposes_S2x16640x512_S2x512x16640_0_2_1) shapeCasts_S2x512x16640_S2x4x128x16640) bitsLt_bf16_f32 : FVec Ideal S2x4x128x16640 .bf16) := by
  simp only [hostOps0, List.take, StableHlo.after_cons, StableHlo.after_nil]
  after_results_simp
  rfl

/-- The row of ones before the concatenation. -/
theorem entry_v4 (σ : Valuation τ sig (Elt Ideal)) : StableHlo.after ((hostOps0 (F := Ideal)).take 8) σ (Proc.devRef .tc main_v4) =
    (broadcastInDim S2x4x1x16640 ![] bcast_S_S2x4x1x16640 (constant S_ .bf16 0x3F80#16) : FVec Ideal S2x4x1x16640 .bf16) := by
  simp only [hostOps0, List.take, StableHlo.after_cons, StableHlo.after_nil]
  after_results_simp

/-- The rows of zeros before the concatenation. -/
theorem entry_v5 (σ : Valuation τ sig (Elt Ideal)) : StableHlo.after ((hostOps0 (F := Ideal)).take 8) σ (Proc.devRef .tc main_v5) =
    (broadcastInDim S2x4x15x16640 ![] bcast_S_S2x4x15x16640 (constant S_ .bf16 0x0000#16) : FVec Ideal S2x4x15x16640 .bf16) := by
  simp only [hostOps0, List.take, StableHlo.after_cons, StableHlo.after_nil]
  after_results_simp

/-- Where an entry of the values' window lies in the values' array. -/
theorem emb_v (t : Fin cfg0.N) (r : Fin 144) (k : Fin 16640) :
    ((View.whole main_v7).slice (win0_4.rect t)).emb (ix3 0 r k) = ix3 (bat t) (⟨(hea t).val * 144 + r.val, by omega⟩ : Fin 576) k := by
  unfold bat hea
  blk_ext [idx t]

/-- Reading the values' window reads the array there. -/
theorem read_emb (c : Dev nD) (B : Buf (Elt Ideal) ((c : Thread nD τ).loc main_v7)) (t : Fin cfg0.N) (r : Fin 144) (k : Fin 16640) :
    View.read (Elt Ideal) ((View.whole main_v7).slice (win0_4.rect t)) B (ix3 0 r k) = B (ix3 (bat t) (⟨(hea t).val * 144 + r.val, by omega⟩ : Fin 576) k) :=
  congrArg B (emb_v t r k)

attribute [local irreducible] StableHlo.after in
/-- The values' window holds the array the host code leaves. -/
theorem read_v0 (c : Dev nD) (t : Fin cfg0.N) (r : Fin 144) (k : Fin 16640) :
    iblk m c 4 t (ix3 0 r k) = V m c main_v7 (ix3 (bat t) (⟨(hea t).val * 144 + r.val, by omega⟩ : Fin 576) k) := by
  exact read_emb c (V m c main_v7) t r k

/-- An entry of the concatenation: a value, then a one, then zeros. -/
theorem vt_apply (x : FVec Ideal S2x4x128x16640 .bf16) (y : FVec Ideal S2x4x1x16640 .bf16) (z : FVec Ideal S2x4x15x16640 .bf16)
    (hy : ∀ i, y i = (1 : EReal)) (hz : ∀ i, z i = (0 : EReal)) (b : Fin 2) (h : Fin 4) (r : Fin 144) (k : Fin 16640) :
    shapeCast S2x576x16640 (concatenate S2x4x144x16640 2 [⟨S2x4x128x16640, x⟩, ⟨S2x4x1x16640, y⟩, ⟨S2x4x15x16640, z⟩] concatenates_S2x4x128x16640_S2x4x1x16640_S2x4x15x16640_S2x4x144x16640_d2)
        shapeCasts_S2x4x144x16640_S2x576x16640 (ix3 b ⟨h.val * 144 + r.val, by omega⟩ k) =
      if hr : r.val < 128 then x (ix4 b h ⟨r.val, hr⟩ k) else if r.val = 128 then (1 : EReal) else 0 := by
  pointwise []
  split
  · rfl
  · by_cases h1 : r.val = 128
    · rw [if_pos h1, dif_pos (by omega)]; exact hy _
    · rw [if_neg h1, dif_neg (by omega)]; exact hz _

/-- The row of ones holds ones. -/
theorem one_bf16 : (broadcastInDim S2x4x1x16640 ![] bcast_S_S2x4x1x16640 (constant S_ .bf16 0x3F80#16) : FVec Ideal S2x4x1x16640 .bf16) = fun _ => (1 : EReal) := by
  funext i
  pointwise []

/-- The zero's bits are zero. -/
theorem zero_bf16 : Ideal.ofBits FTy.bf16 0x0000#16 = 0 := by
  simp only [Ideal.ofBits, Ideal.ieee]
  norm_num

/-- The transposed, reshaped and cast values hold the argument's values. -/
theorem cast_v (x : FVec Ideal S2x16640x512 .f32) (b : Fin 2) (h : Fin 4) (r : Fin 128) (k : Fin 16640) :
    (truncf .bf16 (shapeCast S2x4x128x16640 (transpose S2x512x16640 [0, 2, 1] x transposes_S2x16640x512_S2x512x16640_0_2_1) shapeCasts_S2x512x16640_S2x4x128x16640) bitsLt_bf16_f32 : FVec Ideal S2x4x128x16640 .bf16) (ix4 b h r k) = x (ix3 b k (ch h r)) := by
  unfold ch
  pointwise []

/-- The values' window holds the head's values, then a row of ones, then zeros. -/
theorem read_v (x : S2x16640x512.Idx → EReal) (c : Dev nD) (hx : m ((c.tc : Thread nD τ).loc main_arg2) = x) (t : Fin cfg0.N) (r : Fin 144) (k : Fin 16640) :
    iblk m c 4 t (ix3 0 r k) = if h : r.val < 128 then x (ix3 (bat t) k (ch (hea t) ⟨r.val, h⟩)) else if r.val = 128 then (1 : EReal) else 0 := by
  refine (read_v0 m c t r k).trans ?_
  refine (congrFun (entry_last (StableHlo.after ((hostOps0 (F := Ideal)).take 8) fun b => m (c, b))) _).trans ?_
  refine (vt_apply _ _ _ (fun i => ?_) (fun i => ?_) (bat t) (hea t) r k).trans ?_
  · rw [entry_v4]
    exact congrFun one_bf16 i
  · rw [entry_v5]
    exact zero_bf16
  · refine dite_congr rfl (fun hr => ?_) fun _ => rfl
    subst hx
    rw [entry_v3]
    exact cast_v _ _ _ _ _

/-- Where an entry of the output's block lies in the result. -/
theorem emb_out (t : Fin cfg0.N) (y : Fin 512) (d : Fin 128) :
    ((View.whole main_v10).slice (win0_5.rect t)).emb (ix3 0 y d) = ix3 (bat t) (tok t y) (ch (hea t) d) := by
  unfold bat hea tok ch
  blk_ext [idx t]

end Cert.KernelIdeal.Hand
end
-- ==== Proof.AttnKer.lean ====
module

public import proofs.«01_k».proof.Proof.AttnOut
public import proofs.«01_k».proof.Proof.AttnRead
public import proofs.«01_k».proof.Proof.Gen.KernelIdeal.Value
public import Idealize.ShloMosaic.Lib.WritesUnit

@[expose] public section

set_option maxRecDepth 16384

noncomputable section

/-! # The kernel's result, entry by entry -/

namespace Cert.KernelIdeal.Hand

open Cert.KernelIdeal Cert.KernelIdeal.Gen Cert.Attn Idealize.ShloMosaic Idealize.ShloMosaic.TcCoe Idealize.SL.Sem
open scoped BigOperators

/-! ## The parts of the arguments a grid point works on -/

/-- A channel of a key of a head. -/
def keyOf (k : S2x16640x512.Idx → EReal) (b : Fin 2) (h : Fin 4) (j : ℕ) (l : Fin 128) : ℝ :=
  if hj : j < 16640 then (k (ix3 b ⟨j, hj⟩ (ch h l))).toReal else 0

/-- A row of a key's values: the head's channels, then a one. -/
def valOf (v : S2x16640x512.Idx → EReal) (b : Fin 2) (h : Fin 4) (r : Fin 144) (j : ℕ) : ℝ :=
  if hr : r.val < 128 then (if hj : j < 16640 then (v (ix3 b ⟨j, hj⟩ (ch h ⟨r.val, hr⟩))).toReal else 0) else if r.val = 128 then 1 else 0

/-- A channel of a query of a head, for the queries `f 0, f 1, …`. -/
def queryOf (q : S2x16384x512.Idx → EReal) (b : Fin 2) (h : Fin 4) (f : Fin 256 → Fin 16384) (l : Fin 128) (y : Fin 256) : ℝ :=
  (q (ix3 b (f y) (ch h l))).toReal

/-- The head of a query, from the parts of the arguments its grid point works on, is the attention's value at that query. -/
theorem head_value (q : S2x16384x512.Idx → EReal) (k v : S2x16640x512.Idx → EReal) (a : S4x64.Idx → EReal) (g : S128.Idx → EReal)
    (b : Fin 2) (h : Fin 4) (f : Fin 256 → Fin 16384) (y : Fin 256) (d : Fin 128) :
    head (weight fun j l => (a (ix2 j l)).toReal)
      (fun p (key : Fin 16640) => dot (fun l => queryOf q b h f (half p l) y) (fun l => keyOf k b h key.val (half p l)))
      (fun key e => valOf v b h ⟨e.val, by omega⟩ key.val) (fun e => g (ix1 e)) d = value q k v a g b (f y) h d := by
  unfold value
  congr 1
  · funext p key
    congr 1
    funext l
    exact dif_pos key.isLt
  · funext key e
    exact (dif_pos e.isLt).trans (dif_pos key.isLt)

/-! ## Whole and partial loads -/

section Loads

variable {sig : RefSig} {κ : Kind} {sp : Space}

/-- Loading the four weight rows reads the window's array. -/
theorem load_lambda {arg : Memref sig κ sp S4x64 .f32} (ha : arg.IsWhole) (x : S4x64.Idx → EReal) (inb : ∀ a, (![0, 0] : Fin 2 → ℕ) a + S4x64.size a ≤ S4x64.size a)
    (j : Fin 4) (l : Fin 64) :
    View.readAt (Elt Ideal) arg.view (Rect.unit (s := S4x64) ![0, 0] S4x64.size inb).toLoadRect (ha.unread x) (ix2 j l) = x (ix2 j l) := by
  refine (Memref.IsWhole.readAt_unread (Val := Elt Ideal) ha x _ _).trans (congrArg x ?_)
  funext a
  fin_cases a <;> apply Fin.ext <;> simp [ix2, LoadRect.idx, Rect.unit, Rect.toLoadRect]

/-- Loading the gain reads the window's array. -/
theorem load_gain {arg : Memref sig κ sp S1x128 .f32} (ha : arg.IsWhole) (x : S1x128.Idx → EReal) (inb : ∀ a, (![0, 0] : Fin 2 → ℕ) a + S1x128.size a ≤ S1x128.size a)
    (e : Fin 128) :
    View.readAt (Elt Ideal) arg.view (Rect.unit (s := S1x128) ![0, 0] S1x128.size inb).toLoadRect (ha.unread x) (ix2 0 e) = x (ix2 0 e) := by
  refine (Memref.IsWhole.readAt_unread (Val := Elt Ideal) ha x _ _).trans (congrArg x ?_)
  funext a
  fin_cases a <;> apply Fin.ext <;> simp [ix2, LoadRect.idx, Rect.unit, Rect.toLoadRect]

/-- Loading a tile of 256 queries reads the window's array from the tile's first column on. -/
theorem load_query {arg : Memref sig κ sp S1x128x512 .f32} (ha : arg.IsWhole) (x : S1x128x512.Idx → EReal) {n : ℕ}
    (inb : ∀ a, (![0, 0, n] : Fin 3 → ℕ) a + S1x128x256.size a ≤ S1x128x512.size a) (l : Fin 128) (q : Fin 256) (hn : n + q.val < 512) :
    View.readAt (Elt Ideal) arg.view (Rect.unit (s := S1x128x512) ![0, 0, n] S1x128x256.size inb).toLoadRect (ha.unread x) (ix3 0 l q) =
      x (ix3 0 l ⟨n + q.val, hn⟩) := by
  refine (Memref.IsWhole.readAt_unread (Val := Elt Ideal) ha x _ _).trans (congrArg x ?_)
  funext a
  fin_cases a <;> apply Fin.ext <;> simp [ix3, LoadRect.idx, Rect.unit, Rect.toLoadRect]

end Loads

/-! ## The block of one grid point -/

attribute [local irreducible] shapeCast broadcastTo multiReduction addf mulf subf maximumf exp2 truncf constant select cmpi
  View.readCov View.readAt Memref.IsWhole.unread k0_off1 k0_off2 k0_off3 k0_off4 k0_off5 k0_off7 k0_off8 k0_off9

section Block

variable (c : Dev nD) (i : grid0.Coords)
  (arg3 : Memref sig .tc .vmem S4x64 .f32) (harg3 : arg3.IsWhole)
  (arg4 : Memref sig .tc .vmem S1x128 .f32) (harg4 : arg4.IsWhole)
  (arg5 : Memref sig .tc .vmem S1x128x512 .f32) (harg5 : arg5.IsWhole)
  (arg6 : Memref sig .tc .vmem S1x16640x128 .bf16) (harg6 : arg6.IsWhole)
  (arg7 : Memref sig .tc .vmem S1x144x16640 .bf16) (harg7 : arg7.IsWhole)
  (arg8 : Memref sig .tc .vmem S1x512x128 .bf16) (harg8 : arg8.IsWhole)
  (arg9 : Memref sig .tc .vmem S4x512x256 .f32) (harg9 : arg9.IsWhole)
  (arg10 : Memref sig .tc .vmem S4x512x256 .f32) (harg10 : arg10.IsWhole)
  (arg11 : Memref sig .tc .vmem S4x512x256 .f32) (harg11 : arg11.IsWhole)
  (arg12 : Memref sig .tc .vmem S4x1x256 .f32) (harg12 : arg12.IsWhole)
  (arg13 : Memref sig .tc .vmem S3x4x1x256 .f32) (harg13 : arg13.IsWhole)
  (arg14 : Memref sig .tc .vmem S144x256 .f32) (harg14 : arg14.IsWhole)
  (arg15 : Memref sig .tc .vmem S144x256 .f32) (harg15 : arg15.IsWhole)
  (arg16 : Memref sig .tc .vmem S144x256 .f32) (harg16 : arg16.IsWhole)
  (arg17 : Memref sig .tc .vmem S144x256 .f32) (harg17 : arg17.IsWhole)
  (x0 : Vec Ideal S4x64 .f32) (x1 : Vec Ideal S1x128 .f32) (x2 : Vec Ideal S1x128x512 .f32) (x3 : Vec Ideal S1x16640x128 .bf16) (x4 : Vec Ideal S1x144x16640 .bf16)

set_option maxRecDepth 100000 in
open kernelRun0_A.sl in
/-- The first 256 rows of the block are the first tile. -/
theorem out_tile0 (q : Fin 256) (d : Fin 128) :
    out0_A_5 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 (ix3 0 ⟨q.val, by omega⟩ d) =
      k0_pay1129 (r_50 (F := Ideal) c arg3 harg3 x0)
        (r_51 (F := Ideal) c i arg5 harg5 arg6 harg6 arg7 harg7 arg9 arg10 arg11 arg12 arg13 arg14 x2 x3 x4)
        (r_52 (F := Ideal) c i arg5 harg5 arg6 harg6 arg7 harg7 arg9 arg10 arg11 arg12 arg13 arg15 x2 x3 x4)
        (View.readAt (Elt Ideal) arg4.view (Rect.unit (s := S1x128) ![0, 0] S1x128.size inb_S1x128_S1x128_0_0).toLoadRect (harg4.unread x1)) (ix3 0 q d) := by
  refine (View.read_writes_cons_unit_of_not_mem (Val := Elt Ideal) VO0_5 VO0_5.junk _ _ _ (ix3 0 ⟨q.val, by omega⟩ d) rfl (1 : Fin 3) (Or.inl q.isLt)).trans ?_
  refine View.read_writes_cons_unit_of_mem (Val := Elt Ideal) VO0_5 VO0_5.junk _ _ _ (ix3 0 ⟨q.val, by omega⟩ d) (ix3 0 q d) rfl fun a => ?_
  fin_cases a <;> simp [ix3]

set_option maxRecDepth 100000 in
open kernelRun0_A.sl in
/-- The last 256 rows are the second. -/
theorem out_tile1 (q : Fin 256) (d : Fin 128) :
    out0_A_5 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 (ix3 0 ⟨256 + q.val, by omega⟩ d) =
      k0_pay1 (r_55 (F := Ideal) c i arg3 harg3 arg4 harg4 arg5 harg5 arg6 harg6 arg7 harg7 arg9 arg10 arg11 arg12 arg13 arg16 arg17 x0 x1 x2 x3 x4)
        (k0_pay1131 (F := Ideal)) (ix3 0 q d) := by
  refine View.read_writes_cons_unit_of_mem (Val := Elt Ideal) VO0_5 VO0_5.junk _ _ _ (ix3 0 ⟨256 + q.val, by omega⟩ d) (ix3 0 q d) rfl fun a => ?_
  fin_cases a <;> simp [ix3]

variable {q : S2x16384x512.Idx → EReal} {k v : S2x16640x512.Idx → EReal} {a : S4x64.Idx → EReal} {g : S128.Idx → EReal}
  (hq : ∀ j, q j = ((q j).toReal : EReal)) (hk : ∀ j, k j = ((k j).toReal : EReal)) (hv : ∀ j, v j = ((v j).toReal : EReal))
  (ha : ∀ j, a j = ((a j).toReal : EReal)) (b : Fin 2) (h : Fin 4) (tok : Fin 512 → Fin 16384)
  (e0 : ∀ j l, x0 (ix2 j l) = a (ix2 j l)) (e1 : ∀ e, x1 (ix2 0 e) = g (ix1 e))
  (e2 : ∀ l y, x2 (ix3 0 l y) = q (ix3 b (tok y) (ch h l))) (e3 : ∀ j l, x3 (ix3 0 j l) = k (ix3 b j (ch h l)))
  (e4 : ∀ r j, x4 (ix3 0 r j) = if hr : r.val < 128 then v (ix3 b j (ch h ⟨r.val, hr⟩)) else if r.val = 128 then (1 : EReal) else 0)

include hk e3 in
/-- The keys' window holds the head's keys. -/
theorem keys_block (j : Fin 16640) (l : Fin 128) : x3 (ix3 0 j l) = (keyOf k b h j.val l : EReal) := by
  rw [e3, hk]
  unfold keyOf
  rw [dif_pos j.isLt]

include hv e4 in
/-- The values' window holds the head's values, then a row of ones. -/
theorem vals_block (r : Fin 144) (j : Fin 16640) : x4 (ix3 0 r j) = (valOf v b h r j.val : EReal) := by
  rw [e4]
  unfold valOf
  split
  · rw [dif_pos j.isLt]; exact hv _
  · split <;> simp

/-- The row after the values is one at every key. -/
theorem valOf_one (j : ℕ) : valOf v b h 128 j = 1 := rfl

include ha in
/-- The weight of the second map, from the four rows the kernel loads. -/
theorem lambda_of (w : Vec Ideal S4x64 .f32) (e : ∀ j l, w (ix2 j l) = a (ix2 j l)) :
    k0_pay1124 w (ix2 0 0) = ((weight fun j l => (a (ix2 j l)).toReal : ℝ) : EReal) := by
  rw [lambda_apply]
  simp only [e]
  exact weight_coe (fun j l => a (ix2 j l)) fun j l => ha _

include ha e0 in
open kernelRun0_A.sl in
/-- The weight of the second map, at a grid point. -/
theorem lambda_block : r_50 (F := Ideal) c arg3 harg3 x0 (ix2 0 0) = ((weight fun j l => (a (ix2 j l)).toReal : ℝ) : EReal) := by
  exact lambda_of ha _ fun j l => (load_lambda harg3 x0 _ j l).trans (e0 j l)

include hq e2 in
open kernelRun0_A.sl in
/-- The first tile's queries, for either map. -/
theorem query_block0 : Query (masked 0 (queryOf q b h fun y => tok ⟨y.val, by omega⟩)) (r (F := Ideal) c arg5 harg5 x2) ∧
    Query (masked 1 (queryOf q b h fun y => tok ⟨y.val, by omega⟩)) (r_1 (F := Ideal) c arg5 harg5 x2) := by
  refine ⟨query4 fun l y => ?_, query5 fun l y => ?_⟩
  all_goals
    refine (load_query harg5 x2 _ l y (by omega)).trans ((e2 _ _).trans ?_)
    unfold queryOf
    rw [← hq]
    simp only [Nat.zero_add]

include hq e2 in
open kernelRun0_A.sl in
/-- The second tile's queries, for either map. -/
theorem query_block1 : Query (masked 0 (queryOf q b h fun y => tok ⟨256 + y.val, by omega⟩)) (r_2 (F := Ideal) c arg5 harg5 x2) ∧
    Query (masked 1 (queryOf q b h fun y => tok ⟨256 + y.val, by omega⟩)) (r_3 (F := Ideal) c arg5 harg5 x2) := by
  refine ⟨query8 fun l y => ?_, query9 fun l y => ?_⟩
  all_goals
    refine (load_query harg5 x2 _ l y (by omega)).trans ((e2 _ _).trans ?_)
    unfold queryOf
    rw [← hq]

include hq hk hv ha e0 e1 e2 e3 e4 in
/-- Every row of the block holds the attention of its query. -/
theorem block (y : Fin 512) (d : Fin 128) : out0_A_5 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 (ix3 0 y d) = value q k v a g b (tok y) h d := by
  have b0 : ∀ z : Fin 256, z.val < 512 := fun z => by omega
  have b1 : ∀ z : Fin 256, 256 + z.val < 512 := fun z => by omega
  by_cases hy : y.val < 256
  · obtain ⟨z, rfl⟩ : ∃ z : Fin 256, y = ⟨z.val, b0 z⟩ := ⟨⟨y.val, hy⟩, rfl⟩
    refine (out_tile0 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 z d).trans ?_
    refine (tile0 c i arg3 harg3 arg5 harg5 arg6 harg6 arg7 harg7 arg9 arg10 arg11 arg12 arg13 arg14 arg15 x0 x2 x3 x4
      (keys_block x3 hk b h e3) (vals_block x4 hv b h e4) (valOf_one b h) (query_block0 c arg5 harg5 x2 hq b h tok e2).1
      (query_block0 c arg5 harg5 x2 hq b h tok e2).2 (lambda_block c arg3 harg3 x0 ha e0) _ z d).trans ?_
    refine (congrFun (congrArg (head _ _ _) (funext fun e => (load_gain harg4 x1 _ e).trans (e1 e))) d).trans ?_
    exact head_value q k v a g b h (fun y => tok ⟨y.val, by omega⟩) z d
  · obtain ⟨z, rfl⟩ : ∃ z : Fin 256, y = ⟨256 + z.val, b1 z⟩ := ⟨⟨y.val - 256, by omega⟩, Fin.ext (by simp only; omega)⟩
    refine (out_tile1 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 z d).trans ?_
    refine (tile1 c i arg3 harg3 arg4 harg4 arg5 harg5 arg6 harg6 arg7 harg7 arg9 arg10 arg11 arg12 arg13 arg16 arg17 x0 x1 x2 x3 x4
      (keys_block x3 hk b h e3) (vals_block x4 hv b h e4) (valOf_one b h) (query_block1 c arg5 harg5 x2 hq b h tok e2).1
      (query_block1 c arg5 harg5 x2 hq b h tok e2).2 (lambda_block c arg3 harg3 x0 ha e0) z d).trans ?_
    refine (congrFun (congrArg (head _ _ _) (funext fun e => (load_gain harg4 x1 _ e).trans (e1 e))) d).trans ?_
    exact head_value q k v a g b h (fun y => tok ⟨256 + y.val, by omega⟩) z d

end Block

/-! ## The output array -/

section Array

variable (m : (ℓ : Loc nD τ sig) → Buf (Elt Ideal) ℓ) {q : S2x16384x512.Idx → EReal} {k v : S2x16640x512.Idx → EReal} {a : S4x64.Idx → EReal} {g : S128.Idx → EReal}

/-- The array the kernel leaves is the attention of its arguments, where these are real numbers. -/
theorem arr_eq (c : Dev nD) (e0 : m ((c.tc : Thread nD τ).loc main_arg0) = q) (e1 : m ((c.tc : Thread nD τ).loc main_arg1) = k)
    (e2 : m ((c.tc : Thread nD τ).loc main_arg2) = v) (e3 : m ((c.tc : Thread nD τ).loc main_arg3) = a) (e4 : m ((c.tc : Thread nD τ).loc main_arg4) = g)
    (hq : ∀ j, q j = ((q j).toReal : EReal)) (hk : ∀ j, k j = ((k j).toReal : EReal)) (hv : ∀ j, v j = ((v j).toReal : EReal))
    (ha : ∀ j, a j = ((a j).toReal : EReal)) :
    (dats m 0 c).arrAt 5 (cfgs 0).N = fun i => value q k v a g (i 0) (i 1) (hd (i 2)) (ln (i 2)) := by
  refine (dats m 0 c).arrAt_eq_of_covers 5 _ (by decide +kernel) fun t hf y => ?_
  blk_simp
  rw [after0_5]
  idx_vars y
  obtain rfl := Subsingleton.elim y0 0
  rw [emb_out]
  refine (block (g := g) _ _ _ _ _ _ _ _ _ _ _ _ _ _ _ _ _ _ _ _ _ _ _ _ _ _ _ _ _ _ _ _ _ _ _ _ _ hq hk hv ha (bat t) (hea t) (tok t) ?_ ?_ ?_ ?_ ?_ y1 y2).trans ?_
  · intro j l; rw [read_lambda, e3]
  · intro e; rw [read_gain, e4]
  · intro l z; rw [read_q, e0]
  · intro j l; rw [read_k, e1]
  · intro r j; exact read_v m v c e2 t r j
  · show _ = value q k v a g (bat t) (tok t y1) (hd (ch (hea t) y2)) (ln (ch (hea t) y2))
    rw [hd_ch, ln_ch]

end Array

end Cert.KernelIdeal.Hand
end
-- ==== Proof.AttnRefV.lean ====
module

public import proofs.«01_k».proof.Proof.AttnSpec
public import proofs.«01_k».proof.Proof.Gen.ReferenceIdeal.Read

@[expose] public section

set_option maxRecDepth 16384

noncomputable section

/-! # The reference, entry by entry

On real arguments each step of the reference is real arithmetic: the scores, the softmax, which does not depend on
the maximum subtracted from the scores, the weighted difference of the two softmaxes, and its product with the values. -/

namespace Cert.ReferenceIdeal.Hand

open Cert.ReferenceIdeal Cert.ReferenceIdeal.Gen Cert.ReferenceIdeal.Read Cert.Attn Idealize.ShloMosaic Idealize.ShloMosaic.TcCoe Idealize.SL.Sem
open scoped BigOperators

variable (x0 : S2x16384x512.Idx → EReal) (x1 x2 : S2x16640x512.Idx → EReal) (x3 : S4x64.Idx → EReal) (x4 : S128.Idx → EReal)

/-- The reference's scale is an eighth. -/
theorem eighth : Ideal.ofBits FTy.f32 1040187392#32 = ((1 / 8 : ℝ) : EReal) := by
  simp [Ideal.ofBits, Ideal.ieee, -EReal.coe_mul]; norm_num

/-- The channel of a head, a map and a lane. -/
theorem channel (h : Fin 4) (p : Fin 2) (l : Fin 64) (hl : h.val * 128 + p.val * 64 + l.val < 512) :
    (⟨h.val * 128 + p.val * 64 + l.val, hl⟩ : Fin 512) = ch h (half p l) := Fin.ext (by simp only [ch, half]; omega)

/-- The score of a key with a query, in one half of a head. -/
def scr (b : Fin 2) (s : Fin 16384) (h : Fin 4) (p : Fin 2) (key : Fin 16640) : ℝ :=
  dot (fun l => (x0 (ix3 b s (ch h (half p l)))).toReal) (fun l => (x1 (ix3 b key (ch h (half p l)))).toReal)

/-- The scores. -/
theorem v24_apply (h0 : ∀ i, x0 i = ((x0 i).toReal : EReal)) (h1 : ∀ i, x1 i = ((x1 i).toReal : EReal))
    (b : Fin 2) (h : Fin 4) (p : Fin 2) (s : Fin 16384) (key : Fin 16640) :
    val_main_v24 (F := Ideal) x0 x1 (ix5 b h p s key) = (scr x0 x1 b s h p key : EReal) := by
  have e : val_main_v24 (F := Ideal) x0 x1 (ix5 b h p s key) =
      (∑ l, x0 (ix3 b s (ch h (half p l))) * x1 (ix3 b key (ch h (half p l)))) * Ideal.ofBits FTy.f32 1040187392#32 := by
    pointwise [val_main_v24, val_main_v23, val_main_cst_2, val_main_v22, val_main_v19, val_main_v18, val_main_v17, val_main_v16]
    simp only [channel]
  have t : (∑ l, x0 (ix3 b s (ch h (half p l))) * x1 (ix3 b key (ch h (half p l)))) =
      ((∑ l, (x0 (ix3 b s (ch h (half p l)))).toReal * (x1 (ix3 b key (ch h (half p l)))).toReal : ℝ) : EReal) := by
    rw [← coe_sum]
    exact Finset.sum_congr rfl fun l _ => by rw [EReal.coe_mul, ← h0, ← h1]
  rw [e, t, eighth, ← EReal.coe_mul, scr, dot, mul_one_div]

/-- The weight of the second map. -/
theorem v15_apply (h3 : ∀ i, x3 i = ((x3 i).toReal : EReal)) :
    val_main_v15 (F := Ideal) x3 ix0 = ((weight fun j l => (x3 (ix2 j l)).toReal : ℝ) : EReal) := by
  rw [← weight_coe _ fun j l => h3 _]
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

attribute [local irreducible] val_main_v24 val_main_v15

/-- The maximum of a query's scores. -/
theorem v25_apply (b : Fin 2) (h : Fin 4) (p : Fin 2) (s : Fin 16384) : val_main_v25 (F := Ideal) x0 x1 (ix4 b h p s) =
    Finset.fold max (Ideal.ofBits FTy.f32 4286578688#32) (fun key => val_main_v24 (F := Ideal) x0 x1 (ix5 b h p s key)) Finset.univ := by
  pointwise [val_main_v25, val_main_cst_3]

attribute [local irreducible] val_main_v25

/-- That maximum is a real number. -/
theorem v27_real (h0 : ∀ i, x0 i = ((x0 i).toReal : EReal)) (h1 : ∀ i, x1 i = ((x1 i).toReal : EReal))
    (b : Fin 2) (h : Fin 4) (p : Fin 2) (s : Fin 16384) : ∃ μ : ℝ, val_main_v27 (F := Ideal) x0 x1 (ix4 b h p s) = (μ : EReal) := by
  obtain ⟨μ, hμ⟩ := fold_max_real (n := 16639) (fun key => val_main_v24 (F := Ideal) x0 x1 (ix5 b h p s key)) fun key => ⟨_, v24_apply x0 x1 h0 h1 b h p s key⟩
  refine ⟨μ, ?_⟩
  rw [← hμ]
  have e : val_main_v26 (F := Ideal) (ix4 b h p s) = Ideal.ofBits FTy.f32 4286578688#32 := by
    pointwise [val_main_v26, val_main_cst_4]
  rw [val_main_v27_apply, e, v25_apply, neg_inf_f32]
  generalize Finset.fold max (⊥ : EReal) _ _ = y
  exact max_eq_right bot_le

attribute [local irreducible] val_main_v27

/-- The exponential of a score less the maximum. -/
theorem v31_apply (b : Fin 2) (h : Fin 4) (p : Fin 2) (s : Fin 16384) (key : Fin 16640) :
    val_main_v31 (F := Ideal) x0 x1 (ix5 b h p s key) =
      Ideal.exp (val_main_v24 (F := Ideal) x0 x1 (ix5 b h p s key) - val_main_v27 (F := Ideal) x0 x1 (ix4 b h p s)) := by
  pointwise [val_main_v31, val_main_v30, val_main_v29, val_main_v28]

attribute [local irreducible] val_main_v31

/-- The softmax of the scores. -/
theorem v35_apply (h0 : ∀ i, x0 i = ((x0 i).toReal : EReal)) (h1 : ∀ i, x1 i = ((x1 i).toReal : EReal))
    (b : Fin 2) (h : Fin 4) (p : Fin 2) (s : Fin 16384) (key : Fin 16640) :
    val_main_v35 (F := Ideal) x0 x1 (ix5 b h p s key) =
      ((Real.exp (scr x0 x1 b s h p key) / ∑ j, Real.exp (scr x0 x1 b s h p j) : ℝ) : EReal) := by
  obtain ⟨μ, hμ⟩ := v27_real x0 x1 h0 h1 b h p s
  have e : val_main_v35 (F := Ideal) x0 x1 (ix5 b h p s key) = Ideal.div (val_main_v31 (F := Ideal) x0 x1 (ix5 b h p s key))
      (∑ j, val_main_v31 (F := Ideal) x0 x1 (ix5 b h p s j)) := by
    pointwise [val_main_v35, val_main_v34, val_main_v33, val_main_v32, val_main_cst_5]
  rw [e]
  simp only [v31_apply, v24_apply x0 x1 h0 h1, hμ]
  exact softmax_coe (n := 16639) (scr x0 x1 b s h p) μ key

attribute [local irreducible] val_main_v35

/-- The first map less the weighted second. -/
theorem v42_apply (b : Fin 2) (h : Fin 4) (s : Fin 16384) (key : Fin 16640) :
    val_main_v42 (F := Ideal) x0 x1 x3 (ix4 b h s key) = val_main_v35 (F := Ideal) x0 x1 (ix5 b h 0 s key) -
      val_main_v15 (F := Ideal) x3 ix0 * val_main_v35 (F := Ideal) x0 x1 (ix5 b h 1 s key) := by
  have e0 : val_main_v37 (F := Ideal) x0 x1 (ix4 b h s key) = val_main_v35 (F := Ideal) x0 x1 (ix5 b h 0 s key) := by
    pointwise [val_main_v37, val_main_v36]
  have e1 : val_main_v39 (F := Ideal) x0 x1 (ix4 b h s key) = val_main_v35 (F := Ideal) x0 x1 (ix5 b h 1 s key) := by
    pointwise [val_main_v39, val_main_v38]
  have e2 : val_main_v40 (F := Ideal) x3 (ix4 b h s key) = val_main_v15 (F := Ideal) x3 ix0 := by
    pointwise [val_main_v40]
  rw [val_main_v42_apply, val_main_v41_apply, e0, e1, e2]
  generalize val_main_v35 (F := Ideal) x0 x1 (ix5 b h 0 s key) = y0
  generalize val_main_v35 (F := Ideal) x0 x1 (ix5 b h 1 s key) = y1
  generalize val_main_v15 (F := Ideal) x3 ix0 = y2
  rfl

attribute [local irreducible] val_main_v42

/-- The weighted sum of the values. -/
theorem v43_apply (h0 : ∀ i, x0 i = ((x0 i).toReal : EReal)) (h1 : ∀ i, x1 i = ((x1 i).toReal : EReal))
    (h2 : ∀ i, x2 i = ((x2 i).toReal : EReal)) (h3 : ∀ i, x3 i = ((x3 i).toReal : EReal))
    (b : Fin 2) (h : Fin 4) (s : Fin 16384) (d : Fin 128) :
    val_main_v43 (F := Ideal) x0 x1 x2 x3 (ix4 b h s d) =
      ((mean (scr x0 x1 b s h 0) (fun key => (x2 (ix3 b key (ch h d))).toReal) -
        (weight fun j l => (x3 (ix2 j l)).toReal) * mean (scr x0 x1 b s h 1) (fun key => (x2 (ix3 b key (ch h d))).toReal) : ℝ) : EReal) := by
  have e : val_main_v43 (F := Ideal) x0 x1 x2 x3 (ix4 b h s d) =
      ∑ key, val_main_v42 (F := Ideal) x0 x1 x3 (ix4 b h s key) * x2 (ix3 b key (ch h d)) := by
    pointwise [val_main_v43, val_main_v21, val_main_v20]
    rfl
  rw [e, ← mean_sub, ← coe_sum]
  refine Finset.sum_congr rfl fun key _ => ?_
  rw [v42_apply, v35_apply x0 x1 h0 h1, v35_apply x0 x1 h0 h1, v15_apply x3 h3, EReal.coe_mul, EReal.coe_sub, EReal.coe_mul, ← h2]

attribute [local irreducible] val_main_v43

/-- Its square. -/
theorem v44_apply (b : Fin 2) (h : Fin 4) (s : Fin 16384) (d : Fin 128) : val_main_v44 (F := Ideal) x0 x1 x2 x3 (ix4 b h s d) =
    val_main_v43 (F := Ideal) x0 x1 x2 x3 (ix4 b h s d) * val_main_v43 (F := Ideal) x0 x1 x2 x3 (ix4 b h s d) := val_main_v44_apply _ _ _ _ _

attribute [local irreducible] val_main_v44

/-- The sum of the squares over the channels. -/
theorem v46_apply (b : Fin 2) (h : Fin 4) (s : Fin 16384) : val_main_v46 (F := Ideal) x0 x1 x2 x3 (ix4 b h s 0) =
    ∑ e, val_main_v44 (F := Ideal) x0 x1 x2 x3 (ix4 b h s e) := by
  pointwise [val_main_v46, val_main_v45, val_main_cst_6]

/-- The reciprocal root of the mean square. -/
theorem v51_apply (b : Fin 2) (h : Fin 4) (s : Fin 16384) : val_main_v51 (F := Ideal) x0 x1 x2 x3 (ix4 b h s 0) =
    Ideal.rsqrt (Ideal.div (∑ e, val_main_v43 (F := Ideal) x0 x1 x2 x3 (ix4 b h s e) * val_main_v43 (F := Ideal) x0 x1 x2 x3 (ix4 b h s e))
      (Ideal.ofBits FTy.f32 1124073472#32) + Ideal.ofBits FTy.f32 897988541#32) := by
  have e7 : val_main_v47 (F := Ideal) (ix4 b h s 0) = Ideal.ofBits FTy.f32 1124073472#32 := by
    pointwise [val_main_v47, val_main_cst_7]
  have e9 : val_main_v49 (F := Ideal) (ix4 b h s 0) = Ideal.ofBits FTy.f32 897988541#32 := by
    pointwise [val_main_v49, val_main_cst_8]
  rw [val_main_v51_apply, val_main_v50_apply, val_main_v48_apply, e7, e9, v46_apply]
  simp only [v44_apply]
  generalize (∑ e, val_main_v43 (F := Ideal) x0 x1 x2 x3 (ix4 b h s e) * val_main_v43 (F := Ideal) x0 x1 x2 x3 (ix4 b h s e)) = y
  rfl

attribute [local irreducible] val_main_v51

/-- The normed and scaled head. -/
theorem v58_apply (b : Fin 2) (h : Fin 4) (s : Fin 16384) (d : Fin 128) :
    val_main_v58 (F := Ideal) x0 x1 x2 x3 x4 (ix4 b h s d) =
      finish (fun e => val_main_v43 (F := Ideal) x0 x1 x2 x3 (ix4 b h s e)) (fun e => x4 (ix1 e)) d := by
  have e2 : val_main_v52 (F := Ideal) x0 x1 x2 x3 (ix4 b h s d) = val_main_v51 (F := Ideal) x0 x1 x2 x3 (ix4 b h s 0) := by
    pointwise [val_main_v52]
  have e5 : val_main_v55 (F := Ideal) x4 (ix4 b h s d) = x4 (ix1 d) := by
    pointwise [val_main_v55, val_main_v54]
  have e7 : val_main_v57 (F := Ideal) (ix4 b h s d) = Ideal.ofBits FTy.f32 1061997773#32 := by
    pointwise [val_main_v57, val_main_cst_9]
  rw [val_main_v58_apply, val_main_v56_apply, val_main_v53_apply, e2, e5, e7, v51_apply]
  unfold finish
  beta_reduce
  generalize (∑ e, val_main_v43 (F := Ideal) x0 x1 x2 x3 (ix4 b h s e) * val_main_v43 (F := Ideal) x0 x1 x2 x3 (ix4 b h s e)) = y
  generalize val_main_v43 (F := Ideal) x0 x1 x2 x3 (ix4 b h s d) = z
  rfl

attribute [local irreducible] val_main_v58

/-- The heads side by side. -/
theorem v61_apply (b : Fin 2) (s : Fin 16384) (j : Fin 512) :
    val_main_v61 (F := Ideal) x0 x1 x2 x3 x4 (ix3 b s j) = val_main_v58 (F := Ideal) x0 x1 x2 x3 x4 (ix4 b (hd j) s (ln j)) := by
  pointwise [val_main_v61, val_main_v60, val_main_v59]
  rfl

/-- The reference at an entry, on real arguments. -/
theorem ref_apply (h0 : ∀ i, x0 i = ((x0 i).toReal : EReal)) (h1 : ∀ i, x1 i = ((x1 i).toReal : EReal))
    (h2 : ∀ i, x2 i = ((x2 i).toReal : EReal)) (h3 : ∀ i, x3 i = ((x3 i).toReal : EReal)) (b : Fin 2) (s : Fin 16384) (j : Fin 512) :
    val_main_v61 (F := Ideal) x0 x1 x2 x3 x4 (ix3 b s j) = value x0 x1 x2 x3 x4 b s (hd j) (ln j) := by
  rw [v61_apply, v58_apply]
  simp only [v43_apply x0 x1 x2 x3 h0 h1 h2 h3]
  rfl

end Cert.ReferenceIdeal.Hand
end
-- ==== Proof.AttnValue.lean ====
module

public import proofs.«01_k».proof.Defs
public import proofs.«01_k».proof.Proof.AttnKer
public import proofs.«01_k».proof.Proof.AttnRefV
public import proofs.«01_k».proof.Proof.Gen.ReferenceIdeal.Run
public import proofs.«01_k».proof.Proof.Gen.Pre_finite
public import Idealize.ShloMosaic.Lib.ReduceAll
public import Idealize.ShloMosaic.Lib.KernelVsHost

/-! The differential attention: on real arguments the two programs leave the same array. -/

@[expose] public section

noncomputable section

namespace Cert.AttnValue

open Idealize.ShloMosaic Idealize.ShloMosaic.TcCoe Idealize.SL.Sem

/-! ## The precondition -/

/-- A value whose magnitude compares below infinity is a real number. -/
theorem real_of_lt (x : EReal)
    (h : FloatOps.cmpf (F := Ideal) (φ := .f32) .olt (FloatOps.hostAbsf (F := Ideal) (φ := .f32) x) (FloatOps.ofBits (F := Ideal) .f32 0x7F800000#32) = 1#1) :
    x = (x.toReal : EReal) := by
  have h' : IntOp.xori (BitVec.ofBool (decide (x = ⊤ ∨ x = ⊥))) 1#1 = 1#1 := (Ideal.xori_weird_eq_hostAbsf_olt_inf x).trans h
  have hx : ¬(x = ⊤ ∨ x = ⊥) := by
    intro hx
    rw [decide_eq_true hx] at h'
    exact absurd h' (by decide)
  exact (EReal.coe_toReal (fun e => hx (Or.inl e)) fun e => hx (Or.inr e)).symm

/-- An array all of whose magnitudes compare below infinity holds real numbers. -/
theorem real_of_all {s t u : Shape} {axes : List (Fin s.rank)} [Subsingleton t.Idx] (x : FVec Ideal s .f32) (dims : Fin u.rank → Fin s.rank) (hb : u.BroadcastsInDim s dims) (init : u.Idx → BitVec 1)
    (h : s.ReducesTo axes t) (hu : 0 < u.numel) (j : t.Idx)
    (e : Host.reduce IntOp.andi (cmpf .olt (Host.absf x) (broadcastInDim s dims hb (constant (F := Ideal) u .f32 0x7F800000#32))) init h hu j = 1#1)
    (i : s.Idx) : x i = ((x i).toReal : EReal) :=
  real_of_lt _ (Host.reduce_andi_all _ init h hu j e i)

/-- A conjunction that is one has both sides one. -/
theorem and_one (x y : BitVec 1) (h : IntOp.andi x y = 1#1) : x = 1#1 ∧ y = 1#1 := by
  revert x y; decide

/-- The precondition says that the queries, the keys, the values and the weight's rows are real numbers. -/
theorem real_of_pre [Cert.Pre_finite.Facts] (q : FVec Ideal Pre_finite.S2x16384x512 .f32) (k v : FVec Ideal Pre_finite.S2x16640x512 .f32)
    (a : FVec Ideal Pre_finite.S4x64 .f32) (g : FVec Ideal Pre_finite.S128 .f32) (h : Pre_finite.fn q k v a g = fun _ => 1#1) :
    (∀ i, q i = ((q i).toReal : EReal)) ∧ (∀ i, k i = ((k i).toReal : EReal)) ∧ (∀ i, v i = ((v i).toReal : EReal)) ∧
      ∀ i, a i = ((a i).toReal : EReal) := by
  haveI : Subsingleton Pre_finite.S_.Idx := ⟨fun x y => funext fun z => z.elim0⟩
  have e := congrFun h fun z => z.elim0
  dsimp only [Pre_finite.fn, Pre_finite.fn_part1] at e
  obtain ⟨e, ea⟩ := and_one _ _ e
  obtain ⟨e, ev⟩ := and_one _ _ e
  obtain ⟨eq, ek⟩ := and_one _ _ e
  exact ⟨real_of_all q _ _ _ _ _ _ eq, real_of_all k _ _ _ _ _ _ ek, real_of_all v _ _ _ _ _ _ ev, real_of_all a _ _ _ _ _ _ ea⟩

/-! ## The claims -/

/-- The array both programs leave. -/
def result (q : Pre_finite.S2x16384x512.Idx → EReal) (k v : Pre_finite.S2x16640x512.Idx → EReal) (a : Pre_finite.S4x64.Idx → EReal)
    (g : Pre_finite.S128.Idx → EReal) : Pre_finite.S2x16384x512.Idx → EReal := fun i => Attn.value q k v a g (i 0) (i 1) (Attn.hd (i 2)) (Attn.ln (i 2))

/-- The reference's array on real arguments. -/
theorem ref_eq (x0 : (⟨ReferenceIdeal.S2x16384x512, .f32⟩ : BufTy).Contents (Elt Ideal)) (x1 x2 : (⟨ReferenceIdeal.S2x16640x512, .f32⟩ : BufTy).Contents (Elt Ideal))
    (x3 : (⟨ReferenceIdeal.S4x64, .f32⟩ : BufTy).Contents (Elt Ideal)) (x4 : (⟨ReferenceIdeal.S128, .f32⟩ : BufTy).Contents (Elt Ideal))
    (h0 : ∀ i, x0 i = ((x0 i).toReal : EReal)) (h1 : ∀ i, x1 i = ((x1 i).toReal : EReal)) (h2 : ∀ i, x2 i = ((x2 i).toReal : EReal))
    (h3 : ∀ i, x3 i = ((x3 i).toReal : EReal)) : ReferenceIdeal.Read.val_main_v61 (F := Ideal) x0 x1 x2 x3 x4 = result x0 x1 x2 x3 x4 := by
  funext i
  obtain ⟨b, s, d, rfl⟩ : ∃ b s d, i = ValueIdx.ix3 b s d := ⟨_, _, _, ValueIdx.eq_ix3 i⟩
  exact ReferenceIdeal.Hand.ref_apply x0 x1 x2 x3 x4 h0 h1 h2 h3 b s d

/-- The kernel and the reference agree wherever the queries, keys, values and the weight's rows are finite. -/
theorem algebraic [Cert.KernelIdeal.Facts] [Cert.ReferenceIdeal.Facts] [Cert.Pre_finite.Facts] : Cert.algebraic_KernelIdeal_ReferenceIdeal_pre_finite := by
  intro m g m' g' hpre hargs
  refine ⟨fun c => result (m ((c.tc : Thread _ _).loc KernelIdeal.main_arg0)) (m ((c.tc : Thread _ _).loc KernelIdeal.main_arg1))
    (m ((c.tc : Thread _ _).loc KernelIdeal.main_arg2)) (m ((c.tc : Thread _ _).loc KernelIdeal.main_arg3))
    (m ((c.tc : Thread _ _).loc KernelIdeal.main_arg4)), ?_, ?_⟩
  · refine (θ_run KernelIdeal.defs _ _).mono (fun r h c => ⟨(h c).1.trans ?_, (h c).2⟩) (KernelIdeal.Value.run_blocks m g)
    obtain ⟨hq, hk, hv, ha⟩ := real_of_pre _ _ _ _ _ (hpre c)
    exact KernelIdeal.Hand.arr_eq m c rfl rfl rfl rfl rfl hq hk hv ha
  · refine (θ_run ReferenceIdeal.defs _ _).mono (fun r h c => ⟨(h c).1.trans ?_, (h c).2⟩) (ReferenceIdeal.Value.run m' g')
    obtain ⟨h0, h1, h2, h3, h4⟩ := hargs c
    obtain ⟨hq, hk, hv, ha⟩ := real_of_pre _ _ _ _ _ (hpre c)
    rw [ReferenceIdeal.Read.val_main_v61_eq, h0, h1, h2, h3, h4]
    exact ref_eq _ _ _ _ _ hq hk hv ha

/-- The reference ends, its arguments unchanged and every counter at zero. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named scale is the constant it stands for. -/
theorem preserves : Cert.preserves_Kernel_KernelIdeal :=
  IdealRules.named_const.statement Cert.KernelIdeal.κ "q_scale" .f32 0x3E38AA3B#32 _ rfl

end Cert.AttnValue

end
-- ==== Proof.FfnSpec.lean ====
module

public import Idealize.ShloMosaic.Lib.Pointwise

/-! The feed-forward sublayer by coordinates: one token's row in, one entry of its row out. -/

@[expose] public section

noncomputable section

namespace Cert.FfnSpec

open Idealize.ShloMosaic
open scoped BigOperators

/-- The row of a token, scaled to unit mean square and multiplied by a gain. -/
def rms (f g : Fin 1024 → EReal) (d : Fin 1024) : EReal :=
  f d * Ideal.rsqrt (Ideal.div (∑ k, f k * f k) (Ideal.ofBits FTy.f32 1149239296#32) + Ideal.ofBits FTy.f32 897988541#32) * g d

/-- The normalized row with its scale and shift. -/
def modulated (x g sh sc : Fin 1024 → EReal) (d : Fin 1024) : EReal := rms x g d * (1 + sc d) + sh d

/-- One column of the product with the first weight. -/
def up (x g sh sc : Fin 1024 → EReal) (w : Fin 1024 → Fin 5632 → EReal) (j : Fin 5632) : EReal :=
  ∑ k, modulated x g sh sc k * w k j

/-- The gated unit: `a · 1 / (1 + e^(−a)) · b`. -/
def act (a b : EReal) : EReal := a * Ideal.div 1 (1 + Ideal.exp (-a)) * b

/-- A unit of the hidden layer: column `j` gated against column `2816 + j`. -/
def hidden (u : Fin 5632 → EReal) (j : Fin 2816) : EReal :=
  act (u ⟨j.val, by omega⟩) (u ⟨2816 + j.val, by omega⟩)

/-- One column of the product with the second weight. -/
def down (h : Fin 2816 → EReal) (w : Fin 2816 → Fin 1024 → EReal) (d : Fin 1024) : EReal := ∑ k, h k * w k d

/-- The residual with half the gated, normalized update. -/
def out (x y g gate : Fin 1024 → EReal) (d : Fin 1024) : EReal :=
  x d + Ideal.ofBits FTy.f32 1056964608#32 * gate d * rms y g d

/-- The whole sublayer on one row. -/
def sublayer (x gpre gpost sh sc gate : Fin 1024 → EReal) (wu : Fin 1024 → Fin 5632 → EReal) (wd : Fin 2816 → Fin 1024 → EReal) :
    Fin 1024 → EReal :=
  out x (down (hidden (up x gpre sh sc wu)) wd) gpost gate

end Cert.FfnSpec
end
-- ==== Proof.FfnKer.lean ====
module

public import proofs.«01_k».proof.Proof.FfnSpec
public import proofs.«01_k».proof.Proof.Gen.FfnIdeal.Value
public import Idealize.ShloMosaic.Lib.Pipeline.ValueKit
public import Idealize.ShloMosaic.Lib.Pointwise

@[expose] public section

set_option maxRecDepth 16384

noncomputable section

namespace Cert.FfnIdeal.Hand

open Cert.FfnIdeal Cert.FfnIdeal.Gen Cert.FfnSpec Idealize.ShloMosaic Idealize.ShloMosaic.TcCoe Idealize.SL.Sem
open scoped BigOperators

/-- The modulated row times the up-projection. -/
theorem pay3_apply (v0 : Vec Ideal S1x512x1024 .f32) (v2 : Vec Ideal S1x1024 .f32) (v4 v6 : Vec Ideal S1x1x1024 .f32)
    (v27 : Vec Ideal S1x1024x5632 .bf16) (r : Fin 512) (j : Fin 5632) :
    k0_pay3 v0 v2 v4 v6 v27 (ix2 r j) = up (fun d => v0 (ix3 0 r d)) (fun d => v2 (ix2 0 d)) (fun d => v4 (ix3 0 0 d))
      (fun d => v6 (ix3 0 0 d)) (fun k d => v27 (ix3 0 k d)) j := by
  pointwise [k0_pay3, k0_pay2]
  rfl

/-- The gated hidden row. -/
theorem hidden_apply (v0 : Vec Ideal S1x512x1024 .f32) (v2 : Vec Ideal S1x1024 .f32) (v4 v6 : Vec Ideal S1x1x1024 .f32)
    (v27 : Vec Ideal S1x1024x5632 .bf16) (r : Fin 512) (j : Fin 2816) :
    k0_pay4 v0 v2 v4 v6 v27 (ix2 r j) * Ideal.div 1 (k0_pay6 v0 v2 v4 v6 v27 (ix2 r j)) * k0_pay5 v0 v2 v4 v6 v27 (ix2 r j)
     = FfnSpec.hidden (fun j => k0_pay3 v0 v2 v4 v6 v27 (ix2 r j)) j := by
  unfold FfnSpec.hidden act
  unfold k0_pay4 k0_pay5 k0_pay6 k0_pay4
  generalize k0_pay3 v0 v2 v4 v6 v27 = u
  pointwise []
  rw [zero_sub]

/-- The result's row from the hidden row. -/
theorem pay1_apply (v1 : FVec Ideal S512x1024 .f32) (v30 v31 v36 : FVec Ideal S512x2816 .f32) (v42 : Vec Ideal S1x2816x1024 .bf16) (v45 : Vec Ideal S1x1x1024 .f32) (v49 : Vec Ideal S1x1024 .f32) (r : Fin 512) (j : Fin 1024) :
    k0_pay1 v1 v30 v31 v36 v42 v45 v49 (ix3 0 r j) =
      out (fun d => v1 (ix2 r d)) (down (fun k => v30 (ix2 r k) * Ideal.div 1 (v36 (ix2 r k)) * v31 (ix2 r k)) fun k d => v42 (ix3 0 k d))
        (fun d => v49 (ix2 0 d)) (fun d => v45 (ix3 0 0 d)) j := by
  pointwise [k0_pay1]
  rfl

variable (m : (ℓ : Loc nD τ sig) → Buf (Elt Ideal) ℓ)

/-- The sublayer at entry `(b, s, d)` of the arguments. -/
def value (x : S2x16384x1024.Idx → EReal) (mods : S8x9x1024.Idx → EReal) (gpre gpost : S1024.Idx → EReal)
    (wu : S4x1024x5632.Idx → EReal) (wd : S4x2816x1024.Idx → EReal) (i : S2x16384x1024.Idx) : EReal :=
  sublayer (fun d => x (ix3 (i 0) (i 1) d)) (fun d => gpre (ix1 d)) (fun d => gpost (ix1 d))
    (fun d => mods (ix3 ⟨(i 0).val, (i 0).isLt.trans (by decide)⟩ 0 d)) (fun d => mods (ix3 ⟨(i 0).val, (i 0).isLt.trans (by decide)⟩ 1 d)) (fun d => mods (ix3 ⟨(i 0).val, (i 0).isLt.trans (by decide)⟩ 2 d))
    (fun k d => wu (ix3 0 k d)) (fun k d => wd (ix3 0 k d)) (i 2)

/-- The block every window is at, per grid point. -/
theorem idx : ∀ t : Fin cfg0.N, win0_0.index t = ![(grid0.coords t 0).val, (grid0.coords t 1).val, 0]
    ∧ win0_1.index t = ![(grid0.coords t 0).val, 0, 0] ∧ win0_2.index t = ![0, 0] ∧ win0_3.index t = ![0, 0]
    ∧ win0_4.index t = ![0, 0, 0] ∧ win0_5.index t = ![0, 0, 0]
    ∧ win0_6.index t = ![(grid0.coords t 0).val, (grid0.coords t 1).val, 0]
    ∧ (grid0.coords t 0).val < 2 ∧ (grid0.coords t 1).val < 32 :=
  (by decide +kernel : ∀ t : Fin grid0.N, _)

/-- The batch entry and the token of a row of a block. -/
def bat (t : Fin cfg0.N) : Fin 2 := ⟨(grid0.coords t 0).val, (idx t).2.2.2.2.2.2.2.1⟩
/-- The token of a row of a grid point's block. -/
def tok (t : Fin cfg0.N) (r : Fin 512) : Fin 16384 :=
  ⟨(grid0.coords t 1).val * 512 + r.val, by have := (idx t).2.2.2.2.2.2.2.2; omega⟩

/-- The rows' window holds the grid point's tokens. -/
theorem read_x (c : Dev nD) (t : Fin cfg0.N) (r : Fin 512) (d : Fin 1024) :
    iblk m c 0 t (ix3 0 r d) = m ((c.tc : Thread nD τ).loc main_arg0) (ix3 (bat t) (tok t r) d) := by
  unfold bat tok
  blk_ext [iblk, V, idx t]

/-- The first gain's window holds the argument. -/
theorem read_gpre (c : Dev nD) (t : Fin cfg0.N) (d : Fin 1024) :
    iblk m c 2 t (ix2 0 d) = m ((c.tc : Thread nD τ).loc main_arg2) (ix1 d) := by
  blk_ext! [iblk, V, idx t]

/-- The second gain's window holds the argument. -/
theorem read_gpost (c : Dev nD) (t : Fin cfg0.N) (d : Fin 1024) :
    iblk m c 3 t (ix2 0 d) = m ((c.tc : Thread nD τ).loc main_arg3) (ix1 d) := by
  blk_ext! [iblk, V, idx t]

/-- The up-projection's window holds the first layer's weights. -/
theorem read_wu (c : Dev nD) (t : Fin cfg0.N) (k : Fin 1024) (d : Fin 5632) :
    iblk m c 4 t (ix3 0 k d) = m ((c.tc : Thread nD τ).loc main_arg4) (ix3 0 k d) := by
  blk_ext! [iblk, V, idx t]

/-- The down-projection's window holds the first layer's weights. -/
theorem read_wd (c : Dev nD) (t : Fin cfg0.N) (k : Fin 2816) (d : Fin 1024) :
    iblk m c 5 t (ix3 0 k d) = m ((c.tc : Thread nD τ).loc main_arg5) (ix3 0 k d) := by
  blk_ext! [iblk, V, idx t]

/-- The modulation's window holds the batch's rows. -/
theorem read_row (c : Dev nD) (t : Fin cfg0.N) (j : Fin 9) (d : Fin 1024) :
    iblk m c 1 t (ix3 0 j d) = m ((c.tc : Thread nD τ).loc main_arg1) (ix3 ⟨(bat t).val, by omega⟩ j d) := by
  unfold bat
  blk_ext [iblk, V, idx t]

/-- The shift's row. -/
theorem read_sh (c : Dev nD) (t : Fin cfg0.N) (d : Fin 1024) :
    View.ld (iblk m c 1 t) r0_2 (ix3 0 0 d) = m ((c.tc : Thread nD τ).loc main_arg1) (ix3 ⟨(bat t).val, by omega⟩ 0 d) :=
  (View.ld_unit_apply_of (iblk m c 1 t) _ _ _ (ix3 0 0 d) (ix3 0 0 d) fun a => by fin_cases a <;> simp [ix3]).trans (read_row m c t 0 d)

/-- The scale's row. -/
theorem read_sc (c : Dev nD) (t : Fin cfg0.N) (d : Fin 1024) :
    View.ld (iblk m c 1 t) r0_3 (ix3 0 0 d) = m ((c.tc : Thread nD τ).loc main_arg1) (ix3 ⟨(bat t).val, by omega⟩ 1 d) :=
  (View.ld_unit_apply_of (iblk m c 1 t) _ _ _ (ix3 0 0 d) (ix3 0 1 d) fun a => by fin_cases a <;> simp [ix3]).trans (read_row m c t 1 d)

/-- The gate's row. -/
theorem read_gate (c : Dev nD) (t : Fin cfg0.N) (d : Fin 1024) :
    View.ld (iblk m c 1 t) r0_6 (ix3 0 0 d) = m ((c.tc : Thread nD τ).loc main_arg1) (ix3 ⟨(bat t).val, by omega⟩ 2 d) :=
  (View.ld_unit_apply_of (iblk m c 1 t) _ _ _ (ix3 0 0 d) (ix3 0 2 d) fun a => by fin_cases a <;> simp [ix3]).trans (read_row m c t 2 d)

/-- Where an entry of the output's block lies in the result. -/
theorem emb_out (t : Fin cfg0.N) (r : Fin 512) (d : Fin 1024) :
    ((View.whole main_v4).slice (win0_6.rect t)).emb (ix3 0 r d) = ix3 (bat t) (tok t r) d := by
  unfold bat tok
  blk_ext [idx t]

/-- The loaded rows without their leading axis. -/
theorem pay2_apply (v : Vec Ideal S1x512x1024 .f32) (r : Fin 512) (d : Fin 1024) : k0_pay2 v (ix2 r d) = v (ix3 0 r d) := by
  pointwise [k0_pay2]

/-- The array the kernel leaves is the sublayer of its arguments. -/
theorem arr_eq (c : Dev nD) : (dats m 0 c).arrAt 6 (cfgs 0).N =
    value (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  blk_simp
  rw [after0_6]
  frame_out
  idx_vars y
  obtain rfl := Subsingleton.elim y0 0
  rw [pay1_apply, emb_out]
  simp only [hidden_apply, pay2_apply, pay3_apply, read_x, read_gpre, read_gpost, read_wu, read_wd, read_sh, read_sc, read_gate]
  unfold value sublayer
  rfl

end Cert.FfnIdeal.Hand
end
-- ==== Proof.FfnRefV.lean ====
module

public import proofs.«01_k».proof.Proof.FfnSpec
public import proofs.«01_k».proof.Proof.Gen.FfnRefIdeal.Read
public import Idealize.ShloMosaic.Lib.Pointwise

@[expose] public section

set_option maxRecDepth 16384

noncomputable section

namespace Cert.FfnRefIdeal.Hand

open Cert.FfnRefIdeal Cert.FfnRefIdeal.Read Cert.FfnSpec Idealize.ShloMosaic Idealize.ShloMosaic.TcCoe Idealize.SL.Sem
open scoped BigOperators

variable (x0 : (⟨S2x16384x1024, .f32⟩ : BufTy).Contents (Elt Ideal)) (x1 : (⟨S8x9x1024, .f32⟩ : BufTy).Contents (Elt Ideal)) (x2 x3 : (⟨S1024, .f32⟩ : BufTy).Contents (Elt Ideal)) (x4 : (⟨S4x1024x5632, .f32⟩ : BufTy).Contents (Elt Ideal)) (x5 : (⟨S4x2816x1024, .f32⟩ : BufTy).Contents (Elt Ideal))

/-- The normed token. -/
theorem v27_apply (b : Fin 2) (s : Fin 16384) (d : Fin 1024) :
    val_main_v27 x0 x2 (ix3 b s d) = rms (fun d => x0 (ix3 b s d)) (fun d => x2 (ix1 d)) d := by
  pointwise [val_main_v27, val_main_v26, val_main_v25, val_main_v24, val_main_v23, val_main_v22, val_main_v21, val_main_v20, val_main_v19, val_main_v18, val_main_v17, val_main_v16, val_main_v15, val_main_cst_2, val_main_cst_1, val_main_cst_0]
  rfl

/-- The modulated token. -/
theorem v33_apply (b : Fin 2) (s : Fin 16384) (d : Fin 1024) :
    val_main_v33 x0 x1 x2 (ix3 b s d) = modulated (fun d => x0 (ix3 b s d)) (fun d => x2 (ix1 d))
      (fun d => x1 (ix3 ⟨b.val, by omega⟩ 0 d)) (fun d => x1 (ix3 ⟨b.val, by omega⟩ 1 d)) d := by
  pointwise [val_main_v33, val_main_v32, val_main_v31, val_main_v30, val_main_v29, val_main_v28, val_main_cst_3, val_main_v2, val_main_v1, val_main_v0, val_main_v5, val_main_v4, val_main_v3]
  rw [v27_apply]
  rfl

/-- The up-projection. -/
theorem v34_apply (b : Fin 2) (s : Fin 16384) (j : Fin 5632) :
    val_main_v34 x0 x1 x2 x4 (ix3 b s j) = up (fun d => x0 (ix3 b s d)) (fun d => x2 (ix1 d))
      (fun d => x1 (ix3 ⟨b.val, by omega⟩ 0 d)) (fun d => x1 (ix3 ⟨b.val, by omega⟩ 1 d)) (fun k d => x4 (ix3 0 k d)) j := by
  pointwise [val_main_v34, val_main_v10, val_main_v9]
  simp only [v33_apply]
  rfl

/-- The gated hidden row. -/
theorem v38_apply (b : Fin 2) (s : Fin 16384) (j : Fin 2816) :
    val_main_v38 x0 x1 x2 x4 (ix3 b s j) = FfnSpec.hidden (fun j => val_main_v34 x0 x1 x2 x4 (ix3 b s j)) j := by
  pointwise [val_main_v38, val_main_v37, val_main_v36, val_main_v35, val_main_call0_v5, val_main_call0_v4, val_main_call0_v3, val_main_call0_v2, val_main_call0_v1, val_main_call0_v0, val_main_call0_cst, val_main_call0_cst_0]
  rfl

/-- The down-projection. -/
theorem v39_apply (b : Fin 2) (s : Fin 16384) (d : Fin 1024) :
    val_main_v39 x0 x1 x2 x4 x5 (ix3 b s d) = down (fun j => val_main_v38 x0 x1 x2 x4 (ix3 b s j)) (fun k d => x5 (ix3 0 k d)) d := by
  pointwise [val_main_v39, val_main_v12, val_main_v11]
  rfl

/-- The normed down-projection. -/
theorem v52_apply (b : Fin 2) (s : Fin 16384) (d : Fin 1024) :
    val_main_v52 x0 x1 x2 x3 x4 x5 (ix3 b s d) = rms (fun d => val_main_v39 x0 x1 x2 x4 x5 (ix3 b s d)) (fun d => x3 (ix1 d)) d := by
  pointwise [val_main_v52, val_main_v51, val_main_v50, val_main_v49, val_main_v48, val_main_v47, val_main_v46, val_main_v45, val_main_v44, val_main_v43, val_main_v42, val_main_v41, val_main_v40, val_main_cst_4, val_main_cst_5, val_main_cst_6]
  rfl

/-- The reference at an entry is the sublayer on its token's row. -/
theorem v55_apply (b : Fin 2) (s : Fin 16384) (d : Fin 1024) :
    val_main_v55 x0 x1 x2 x3 x4 x5 (ix3 b s d) = sublayer (fun d => x0 (ix3 b s d)) (fun d => x2 (ix1 d)) (fun d => x3 (ix1 d))
      (fun d => x1 (ix3 ⟨b.val, by omega⟩ 0 d)) (fun d => x1 (ix3 ⟨b.val, by omega⟩ 1 d)) (fun d => x1 (ix3 ⟨b.val, by omega⟩ 2 d))
      (fun k d => x4 (ix3 0 k d)) (fun k d => x5 (ix3 0 k d)) d := by
  pointwise [val_main_v55, val_main_v54, val_main_v53, val_main_v14, val_main_v13, val_main_cst, val_main_v8, val_main_v7, val_main_v6]
  rw [v52_apply]
  simp only [v39_apply, v38_apply, v34_apply]
  rfl

end Cert.FfnRefIdeal.Hand
end
-- ==== Proof.FfnValue.lean ====
module

public import proofs.«01_k».proof.Defs
public import proofs.«01_k».proof.Proof.FfnKer
public import proofs.«01_k».proof.Proof.FfnRefV

/-! The feed-forward sublayer: the two programs leave the same array. -/

@[expose] public section

noncomputable section

namespace Cert.FfnValue

open Idealize.ShloMosaic Idealize.ShloMosaic.TcCoe Idealize.SL.Sem

/-- The reference's array, entry by entry, is the kernel's. -/
theorem ref_eq (x0 : (⟨FfnRefIdeal.S2x16384x1024, .f32⟩ : BufTy).Contents (Elt Ideal)) (x1 : (⟨FfnRefIdeal.S8x9x1024, .f32⟩ : BufTy).Contents (Elt Ideal))
    (x2 x3 : (⟨FfnRefIdeal.S1024, .f32⟩ : BufTy).Contents (Elt Ideal)) (x4 : (⟨FfnRefIdeal.S4x1024x5632, .f32⟩ : BufTy).Contents (Elt Ideal))
    (x5 : (⟨FfnRefIdeal.S4x2816x1024, .f32⟩ : BufTy).Contents (Elt Ideal)) :
    FfnRefIdeal.Read.val_main_v55 x0 x1 x2 x3 x4 x5 = FfnIdeal.Hand.value x0 x1 x2 x3 x4 x5 := by
  funext i
  obtain ⟨b, s, d, rfl⟩ : ∃ b s d, i = ValueIdx.ix3 b s d := ⟨_, _, _, ValueIdx.eq_ix3 i⟩
  exact FfnRefIdeal.Hand.v55_apply x0 x1 x2 x3 x4 x5 b s d

/-- The kernel and the reference agree on every input. -/
theorem algebraic [Cert.FfnIdeal.Facts] [Cert.FfnRefIdeal.Facts] : Cert.algebraic_FfnIdeal_FfnRefIdeal := by
  intro m g m' g' _ hargs
  refine ⟨fun c => FfnIdeal.Hand.value (m ((c.tc : Thread _ _).loc FfnIdeal.main_arg0)) (m ((c.tc : Thread _ _).loc FfnIdeal.main_arg1))
    (m ((c.tc : Thread _ _).loc FfnIdeal.main_arg2)) (m ((c.tc : Thread _ _).loc FfnIdeal.main_arg3))
    (m ((c.tc : Thread _ _).loc FfnIdeal.main_arg4)) (m ((c.tc : Thread _ _).loc FfnIdeal.main_arg5)), ?_, ?_⟩
  · exact (θ_run FfnIdeal.defs _ _).mono (fun r h c => ⟨(h c).1.trans (FfnIdeal.Hand.arr_eq m c), (h c).2⟩) (FfnIdeal.Value.run_blocks m g)
  · refine (θ_run FfnRefIdeal.defs _ _).mono (fun r h c => ⟨(h c).1.trans ?_, (h c).2⟩) (FfnRefIdeal.Value.run m' g')
    obtain ⟨h0, h1, h2, h3, h4, h5⟩ := hargs c
    rw [FfnRefIdeal.Read.val_main_v55_eq, ref_eq, h0, h1, h2, h3, h4, h5]

/-- The reference ends, its arguments unchanged and every counter at zero. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

end Cert.FfnValue
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.AttnValue
public import proofs.«01_k».proof.Proof.FfnValue
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  Cert.AttnValue.frame_ref, fun m ρ _ => Cert.AttnValue.frame_ref m ρ trivial,
  fun m ρ _ => Cert.Ffn.Gen.frame m ρ, fun m ρ _ => Cert.FfnIdeal.Gen.frame m ρ, Cert.FfnValue.frame_ref,
  Cert.AttnValue.preserves, Cert.AttnValue.algebraic, trivial, Cert.FfnValue.algebraic⟩

end Cert.Proof

end
